-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59_0) = v0 c
          ∧ r.2.mem ((c.tc : Thread Cert.ReferenceIdeal.nD Cert.ReferenceIdeal.τ).loc Cert.ReferenceIdeal.main_v59_1) = v1 c
          ∧ r.2.mem ((c.tc : Thread Cert.ReferenceIdeal.nD Cert.ReferenceIdeal.τ).loc Cert.ReferenceIdeal.main_v59_2) = v2 c
          ∧ r.2.mem ((c.tc : Thread Cert.ReferenceIdeal.nD Cert.ReferenceIdeal.τ).loc Cert.ReferenceIdeal.main_v59_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2560x12288 : Shape := ⟨3, ![4, 2560, 12288]⟩
abbrev S12288x1792 : Shape := ⟨2, ![12288, 1792]⟩
abbrev S768x3584 : Shape := ⟨2, ![768, 3584]⟩
abbrev S_ : Shape := ⟨0, ![]⟩
abbrev S768x14x128x2 : Shape := ⟨4, ![768, 14, 128, 2]⟩
abbrev S768x14x2x128 : Shape := ⟨4, ![768, 14, 2, 128]⟩
abbrev S1 : Shape := ⟨1, ![1]⟩
abbrev S10240x12288 : Shape := ⟨2, ![10240, 12288]⟩
abbrev S10240x1792 : Shape := ⟨2, ![10240, 1792]⟩
abbrev S10x8x128 : Shape := ⟨3, ![10, 8, 128]⟩
abbrev S1024x1024 : Shape := ⟨2, ![1024, 1024]⟩
abbrev S1024x1792 : Shape := ⟨2, ![1024, 1792]⟩
abbrev S64x3584 : Shape := ⟨2, ![64, 3584]⟩
abbrev S1x8x128 : Shape := ⟨3, ![1, 8, 128]⟩
abbrev S1024x3584 : Shape := ⟨2, ![1024, 3584]⟩
abbrev S1024x128 : Shape := ⟨2, ![1024, 128]⟩
abbrev S256x128 : Shape := ⟨2, ![256, 128]⟩
abbrev S64x256 : Shape := ⟨2, ![64, 256]⟩
abbrev S64x128 : Shape := ⟨2, ![64, 128]⟩
abbrev S64x1x128 : Shape := ⟨3, ![64, 1, 128]⟩
abbrev S64x16x128 : Shape := ⟨3, ![64, 16, 128]⟩
abbrev S1024x256 : Shape := ⟨2, ![1024, 256]⟩
abbrev S1024 : Shape := ⟨1, ![1024]⟩
abbrev S1024x1 : Shape := ⟨2, ![1024, 1]⟩
abbrev S128x128 : Shape := ⟨2, ![128, 128]⟩
abbrev S1x128 : Shape := ⟨2, ![1, 128]⟩
abbrev S8x128 : Shape := ⟨2, ![8, 128]⟩

abbrev nBuf : Space → Nat
  | .hbm => 14
  | .vmem => 22
  | .smem => 1
  | _ => 0

abbrev bufTy : (tb : Table) → Fin (tcTables nBuf tb) → BufTy
  | .hbm, ⟨0, _⟩ => ⟨S4x2560x12288, .bf16⟩
  | .hbm, ⟨1, _⟩ => ⟨S12288x1792, .i8⟩
  | .hbm, ⟨2, _⟩ => ⟨S768x3584, .fp8e4m3⟩
  | .hbm, ⟨3, _⟩ => ⟨S_, .f32⟩
  | .hbm, ⟨4, _⟩ => ⟨S768x14x128x2, .fp8e4m3⟩
  | .hbm, ⟨5, _⟩ => ⟨S768x14x2x128, .fp8e4m3⟩
  | .hbm, ⟨6, _⟩ => ⟨S768x3584, .fp8e4m3⟩
  | .hbm, ⟨7, _⟩ => ⟨S1, .f32⟩
  | .hbm, ⟨8, _⟩ => ⟨S10240x12288, .bf16⟩
  | .hbm, ⟨9, _⟩ => ⟨S10240x12288, .bf16⟩
  | .hbm, ⟨10, _⟩ => ⟨S10240x1792, .fp8e4m3⟩
  | .hbm, ⟨11, _⟩ => ⟨S10x8x128, .f32⟩
  | .hbm, ⟨12, _⟩ => ⟨S10240x12288, .fp8e4m3⟩
  | .hbm, ⟨13, _⟩ => ⟨S10x8x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1792, .i8⟩
  | .local _ .vmem, ⟨5, _⟩ => ⟨S1024x1792, .i8⟩
  | .local _ .vmem, ⟨6, _⟩ => ⟨S64x3584, .fp8e4m3⟩
  | .local _ .vmem, ⟨7, _⟩ => ⟨S64x3584, .fp8e4m3⟩
  | .local _ .vmem, ⟨8, _⟩ => ⟨S1024x1792, .fp8e4m3⟩
  | .local _ .vmem, ⟨9, _⟩ => ⟨S1024x1792, .fp8e4m3⟩
  | .local _ .vmem, ⟨10, _⟩ => ⟨S1x8x128, .f32⟩
  | .local _ .vmem, ⟨11, _⟩ => ⟨S1x8x128, .f32⟩
  | .local _ .vmem, ⟨12, _⟩ => ⟨S1024x1024, .fp8e4m3⟩
  | .local _ .vmem, ⟨13, _⟩ => ⟨S1024x1024, .fp8e4m3⟩
  | .local _ .vmem, ⟨14, _⟩ => ⟨S1x8x128, .f32⟩
  | .local _ .vmem, ⟨15, _⟩ => ⟨S1x8x128, .f32⟩
  | .local _ .vmem, ⟨16, _⟩ => ⟨S1024x3584, .f32⟩
  | .local _ .vmem, ⟨17, _⟩ => ⟨S1024x1792, .f32⟩
  | .local _ .vmem, ⟨18, _⟩ => ⟨S1024x1024, .bf16⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .smem, ⟨0, _⟩ => ⟨S1, .f32⟩
  | _, _ => ⟨S4x2560x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 12], ![false, false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let arg1 : BitVec 32 := BitVec.ofNat 32 (i 1).val
  let c11_i32 : BitVec 32 := 11#32
  let v4 : BitVec 1 := Scalar.cmpi .eq arg1 c11_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg0 c9_i32
  let c10_i32 : BitVec 32 := 10#32
  let v1 : BitVec 1 := Scalar.cmpi .slt arg0 c10_i32
  let c11_i32 : BitVec 32 := 11#32
  let v2 : BitVec 32 := Scalar.select v1 arg1 c11_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1792 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1792 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x2560x12288 : Shape := ⟨3, ![4, 2560, 12288]⟩
abbrev S12288x1792 : Shape := ⟨2, ![12288, 1792]⟩
abbrev S768x3584 : Shape := ⟨2, ![768, 3584]⟩
abbrev S_ : Shape := ⟨0, ![]⟩
abbrev S1x1 : Shape := ⟨2, ![1, 1]⟩
abbrev S10240x12288 : Shape := ⟨2, ![10240, 12288]⟩
abbrev S768x1792 : Shape := ⟨2, ![768, 1792]⟩
abbrev S10240x1792 : Shape := ⟨2, ![10240, 1792]⟩
abbrev S10x8x128 : Shape := ⟨3, ![10, 8, 128]⟩
abbrev S10240 : Shape := ⟨1, ![10240]⟩
abbrev S10240x1 : Shape := ⟨2, ![10240, 1]⟩
abbrev S768x1x1792 : Shape := ⟨3, ![768, 1, 1792]⟩
abbrev S768x16x1792 : Shape := ⟨3, ![768, 16, 1792]⟩

abbrev nBuf : Space → Nat
  | .hbm => 117
  | .vmem => 10
  | .smem => 0
  | _ => 0

abbrev bufTy : (tb : Table) → Fin (tcTables nBuf tb) → BufTy
  | .hbm, ⟨0, _⟩ => ⟨S4x2560x12288, .bf16⟩
  | .hbm, ⟨1, _⟩ => ⟨S12288x1792, .i8⟩
  | .hbm, ⟨2, _⟩ => ⟨S768x3584, .fp8e4m3⟩
  | .hbm, ⟨3, _⟩ => ⟨S_, .f32⟩
  | .hbm, ⟨4, _⟩ => ⟨S12288x1792, .i32⟩
  | .hbm, ⟨5, _⟩ => ⟨S1x1, .f32⟩
  | .hbm, ⟨6, _⟩ => ⟨S10240x12288, .bf16⟩
  | .hbm, ⟨7, _⟩ => ⟨S_, .i32⟩
  | .hbm, ⟨8, _⟩ => ⟨S12288x1792, .i32⟩
  | .hbm, ⟨9, _⟩ => ⟨S12288x1792, .i32⟩
  | .hbm, ⟨10, _⟩ => ⟨S_, .i32⟩
  | .hbm, ⟨11, _⟩ => ⟨S12288x1792, .i32⟩
  | .hbm, ⟨12, _⟩ => ⟨S12288x1792, .i32⟩
  | .hbm, ⟨13, _⟩ => ⟨S_, .i32⟩
  | .hbm, ⟨14, _⟩ => ⟨S12288x1792, .i32⟩
  | .hbm, ⟨15, _⟩ => ⟨S12288x1792, .i1⟩
  | .hbm, ⟨16, _⟩ => ⟨S_, .i32⟩
  | .hbm, ⟨17, _⟩ => ⟨S12288x1792, .i32⟩
  | .hbm, ⟨18, _⟩ => ⟨S12288x1792, .i32⟩
  | .hbm, ⟨19, _⟩ => ⟨S_, .i32⟩
  | .hbm, ⟨20, _⟩ => ⟨S12288x1792, .i32⟩
  | .hbm, ⟨21, _⟩ => ⟨S12288x1792, .i1⟩
  | .hbm, ⟨22, _⟩ => ⟨S_, .i32⟩
  | .hbm, ⟨23, _⟩ => ⟨S12288x1792, .i32⟩
  | .hbm, ⟨24, _⟩ => ⟨S12288x1792, .i32⟩
  | .hbm, ⟨25, _⟩ => ⟨S_, .i32⟩
  | .hbm, ⟨26, _⟩ => ⟨S12288x1792, .i32⟩
  | .hbm, ⟨27, _⟩ => ⟨S12288x1792, .i1⟩
  | .hbm, ⟨28, _⟩ => ⟨S_, .i32⟩
  | .hbm, ⟨29, _⟩ => ⟨S12288x1792, .i32⟩
  | .hbm, ⟨30, _⟩ => ⟨S12288x1792, .i32⟩
  | .hbm, ⟨31, _⟩ => ⟨S_, .i32⟩
  | .hbm, ⟨32, _⟩ => ⟨S12288x1792, .i32⟩
  | .hbm, ⟨33, _⟩ => ⟨S12288x1792, .i1⟩
  | .hbm, ⟨34, _⟩ => ⟨S_, .bf16⟩
  | .hbm, ⟨35, _⟩ => ⟨S_, .bf16⟩
  | .hbm, ⟨36, _⟩ => ⟨S12288x1792, .bf16⟩
  | .hbm, ⟨37, _⟩ => ⟨S12288x1792, .bf16⟩
  | .hbm, ⟨38, _⟩ => ⟨S12288x1792, .bf16⟩
  | .hbm, ⟨39, _⟩ => ⟨S_, .bf16⟩
  | .hbm, ⟨40, _⟩ => ⟨S_, .bf16⟩
  | .hbm, ⟨41, _⟩ => ⟨S12288x1792, .bf16⟩
  | .hbm, ⟨42, _⟩ => ⟨S12288x1792, .bf16⟩
  | .hbm, ⟨43, _⟩ => ⟨S12288x1792, .bf16⟩
  | .hbm, ⟨44, _⟩ => ⟨S12288x1792, .bf16⟩
  | .hbm, ⟨45, _⟩ => ⟨S_, .bf16⟩
  | .hbm, ⟨46, _⟩ => ⟨S_, .bf16⟩
  | .hbm, ⟨47, _⟩ => ⟨S12288x1792, .bf16⟩
  | .hbm, ⟨48, _⟩ => ⟨S12288x1792, .bf16⟩
  | .hbm, ⟨49, _⟩ => ⟨S12288x1792, .bf16⟩
  | .hbm, ⟨50, _⟩ => ⟨S_, .bf16⟩
  | .hbm, ⟨51, _⟩ => ⟨S_, .bf16⟩
  | .hbm, ⟨52, _⟩ => ⟨S12288x1792, .bf16⟩
  | .hbm, ⟨53, _⟩ => ⟨S12288x1792, .bf16⟩
  | .hbm, ⟨54, _⟩ => ⟨S12288x1792, .bf16⟩
  | .hbm, ⟨55, _⟩ => ⟨S12288x1792, .bf16⟩
  | .hbm, ⟨56, _⟩ => ⟨S12288x1792, .bf16⟩
  | .hbm, ⟨57, _⟩ => ⟨S12288x1792, .bf16⟩
  | .hbm, ⟨58, _⟩ => ⟨S12288x1792, .bf16⟩
  | .hbm, ⟨59, _⟩ => ⟨S_, .i32⟩
  | .hbm, ⟨60, _⟩ => ⟨S12288x1792, .i32⟩
  | .hbm, ⟨61, _⟩ => ⟨S12288x1792, .i32⟩
  | .hbm, ⟨62, _⟩ => ⟨S_, .i32⟩
  | .hbm, ⟨63, _⟩ => ⟨S12288x1792, .i32⟩
  | .hbm, ⟨64, _⟩ => ⟨S12288x1792, .i32⟩
  | .hbm, ⟨65, _⟩ => ⟨S_, .i32⟩
  | .hbm, ⟨66, _⟩ => ⟨S12288x1792, .i32⟩
  | .hbm, ⟨67, _⟩ => ⟨S12288x1792, .i1⟩
  | .hbm, ⟨68, _⟩ => ⟨S_, .i32⟩
  | .hbm, ⟨69, _⟩ => ⟨S12288x1792, .i32⟩
  | .hbm, ⟨70, _⟩ => ⟨S12288x1792, .i32⟩
  | .hbm, ⟨71, _⟩ => ⟨S_, .i32⟩
  | .hbm, ⟨72, _⟩ => ⟨S12288x1792, .i32⟩
  | .hbm, ⟨73, _⟩ => ⟨S12288x1792, .i1⟩
  | .hbm, ⟨74, _⟩ => ⟨S_, .i32⟩
  | .hbm, ⟨75, _⟩ => ⟨S12288x1792, .i32⟩
  | .hbm, ⟨76, _⟩ => ⟨S12288x1792, .i32⟩
  | .hbm, ⟨77, _⟩ => ⟨S_, .i32⟩
  | .hbm, ⟨78, _⟩ => ⟨S12288x1792, .i32⟩
  | .hbm, ⟨79, _⟩ => ⟨S12288x1792, .i1⟩
  | .hbm, ⟨80, _⟩ => ⟨S_, .i32⟩
  | .hbm, ⟨81, _⟩ => ⟨S12288x1792, .i32⟩
  | .hbm, ⟨82, _⟩ => ⟨S12288x1792, .i32⟩
  | .hbm, ⟨83, _⟩ => ⟨S_, .i32⟩
  | .hbm, ⟨84, _⟩ => ⟨S12288x1792, .i32⟩
  | .hbm, ⟨85, _⟩ => ⟨S12288x1792, .i1⟩
  | .hbm, ⟨86, _⟩ => ⟨S_, .bf16⟩
  | .hbm, ⟨87, _⟩ => ⟨S_, .bf16⟩
  | .hbm, ⟨88, _⟩ => ⟨S12288x1792, .bf16⟩
  | .hbm, ⟨89, _⟩ => ⟨S12288x1792, .bf16⟩
  | .hbm, ⟨90, _⟩ => ⟨S12288x1792, .bf16⟩
  | .hbm, ⟨91, _⟩ => ⟨S_, .bf16⟩
  | .hbm, ⟨92, _⟩ => ⟨S_, .bf16⟩
  | .hbm, ⟨93, _⟩ => ⟨S12288x1792, .bf16⟩
  | .hbm, ⟨94, _⟩ => ⟨S12288x1792, .bf16⟩
  | .hbm, ⟨95, _⟩ => ⟨S12288x1792, .bf16⟩
  | .hbm, ⟨96, _⟩ => ⟨S12288x1792, .bf16⟩
  | .hbm, ⟨97, _⟩ => ⟨S_, .bf16⟩
  | .hbm, ⟨98, _⟩ => ⟨S_, .bf16⟩
  | .hbm, ⟨99, _⟩ => ⟨S12288x1792, .bf16⟩
  | .hbm, ⟨100, _⟩ => ⟨S12288x1792, .bf16⟩
  | .hbm, ⟨101, _⟩ => ⟨S12288x1792, .bf16⟩
  | .hbm, ⟨102, _⟩ => ⟨S_, .bf16⟩
  | .hbm, ⟨103, _⟩ => ⟨S_, .bf16⟩
  | .hbm, ⟨104, _⟩ => ⟨S12288x1792, .bf16⟩
  | .hbm, ⟨105, _⟩ => ⟨S12288x1792, .bf16⟩
  | .hbm, ⟨106, _⟩ => ⟨S12288x1792, .bf16⟩
  | .hbm, ⟨107, _⟩ => ⟨S12288x1792, .bf16⟩
  | .hbm, ⟨108, _⟩ => ⟨S12288x1792, .bf16⟩
  | .hbm, ⟨109, _⟩ => ⟨S12288x1792, .bf16⟩
  | .hbm, ⟨110, _⟩ => ⟨S12288x1792, .bf16⟩
  | .hbm, ⟨111, _⟩ => ⟨S768x1792, .fp8e4m3⟩
  | .hbm, ⟨112, _⟩ => ⟨S768x1792, .fp8e4m3⟩
  | .hbm, ⟨113, _⟩ => ⟨S10240x1792, .fp8e4m3⟩
  | .hbm, ⟨114, _⟩ => ⟨S10x8x128, .f32⟩
  | .hbm, ⟨115, _⟩ => ⟨S10240x12288, .fp8e4m3⟩
  | .hbm, ⟨116, _⟩ => ⟨S10x8x128, .f32⟩
  | .local _ .vmem, ⟨0, _⟩ => ⟨S1x1, .f32⟩
  | .local _ .vmem, ⟨1, _⟩ => ⟨S10240x12288, .bf16⟩
  | .local _ .vmem, ⟨2, _⟩ => ⟨S12288x1792, .bf16⟩
  | .local _ .vmem, ⟨3, _⟩ => ⟨S12288x1792, .bf16⟩
  | .local _ .vmem, ⟨4, _⟩ => ⟨S768x1792, .fp8e4m3⟩
  | .local _ .vmem, ⟨5, _⟩ => ⟨S768x1792, .fp8e4m3⟩
  | .local _ .vmem, ⟨6, _⟩ => ⟨S10240x1792, .fp8e4m3⟩
  | .local _ .vmem, ⟨7, _⟩ => ⟨S10x8x128, .f32⟩
  | .local _ .vmem, ⟨8, _⟩ => ⟨S10240x12288, .fp8e4m3⟩
  | .local _ .vmem, ⟨9, _⟩ => ⟨S10x8x128, .f32⟩
  | _, _ => ⟨S4x2560x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_c_6 : Ref sig .tc := ⟨.hbm, 28, rfl⟩
abbrev main_v17 : Ref sig .tc := ⟨.hbm, 29, rfl⟩
abbrev main_v18 : Ref sig .tc := ⟨.hbm, 30, rfl⟩
abbrev main_c_7 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_cst_8 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_cst_9 : Ref sig .tc := ⟨.hbm, 39, rfl⟩
abbrev main_cst_10 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_v23 : Ref sig .tc := ⟨.hbm, 44, rfl⟩
abbrev main_cst_11 : Ref sig .tc := ⟨.hbm, 45, rfl⟩
abbrev main_cst_12 : Ref sig .tc := ⟨.hbm, 46, rfl⟩
abbrev main_call3_v0 : Ref sig .tc := ⟨.hbm, 47, rfl⟩
abbrev main_call3_v1 : Ref sig .tc := ⟨.hbm, 48, rfl⟩
abbrev main_v24 : Ref sig .tc := ⟨.hbm, 49, rfl⟩
abbrev main_cst_13 : Ref sig .tc := ⟨.hbm, 50, rfl⟩
abbrev main_cst_14 : Ref sig .tc := ⟨.hbm, 51, rfl⟩
abbrev main_call4_v0 : Ref sig .tc := ⟨.hbm, 52, rfl⟩
abbrev main_call4_v1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_15 : Ref sig .tc := ⟨.hbm, 59, rfl⟩
abbrev main_v30 : Ref sig .tc := ⟨.hbm, 60, rfl⟩
abbrev main_v31 : Ref sig .tc := ⟨.hbm, 61, rfl⟩
abbrev main_c_16 : Ref sig .tc := ⟨.hbm, 62, rfl⟩
abbrev main_v32 : Ref sig .tc := ⟨.hbm, 63, rfl⟩
abbrev main_v33 : Ref sig .tc := ⟨.hbm, 64, rfl⟩
abbrev main_c_17 : Ref sig .tc := ⟨.hbm, 65, rfl⟩
abbrev main_v34 : Ref sig .tc := ⟨.hbm, 66, rfl⟩
abbrev main_v35 : Ref sig .tc := ⟨.hbm, 67, rfl⟩
abbrev main_c_18 : Ref sig .tc := ⟨.hbm, 68, rfl⟩
abbrev main_v36 : Ref sig .tc := ⟨.hbm, 69, rfl⟩
abbrev main_v37 : Ref sig .tc := ⟨.hbm, 70, rfl⟩
abbrev main_c_19 : Ref sig .tc := ⟨.hbm, 71, rfl⟩
abbrev main_v38 : Ref sig .tc := ⟨.hbm, 72, rfl⟩
abbrev main_v39 : Ref sig .tc := ⟨.hbm, 73, rfl⟩
abbrev main_c_20 : Ref sig .tc := ⟨.hbm, 74, rfl⟩
abbrev main_v40 : Ref sig .tc := ⟨.hbm, 75, rfl⟩
abbrev main_v41 : Ref sig .tc := ⟨.hbm, 76, rfl⟩
abbrev main_c_21 : Ref sig .tc := ⟨.hbm, 77, rfl⟩
abbrev main_v42 : Ref sig .tc := ⟨.hbm, 78, rfl⟩
abbrev main_v43 : Ref sig .tc := ⟨.hbm, 79, rfl⟩
abbrev main_c_22 : Ref sig .tc := ⟨.hbm, 80, rfl⟩
abbrev main_v44 : Ref sig .tc := ⟨.hbm, 81, rfl⟩
abbrev main_v45 : Ref sig .tc := ⟨.hbm, 82, rfl⟩
abbrev main_c_23 : Ref sig .tc := ⟨.hbm, 83, rfl⟩
abbrev main_v46 : Ref sig .tc := ⟨.hbm, 84, rfl⟩
abbrev main_v47 : Ref sig .tc := ⟨.hbm, 85, rfl⟩
abbrev main_cst_24 : Ref sig .tc := ⟨.hbm, 86, rfl⟩
abbrev main_cst_25 : Ref sig .tc := ⟨.hbm, 87, rfl⟩
abbrev main_call8_v0 : Ref sig .tc := ⟨.hbm, 88, rfl⟩
abbrev main_call8_v1 : Ref sig .tc := ⟨.hbm, 89, rfl⟩
abbrev main_v48 : Ref sig .tc := ⟨.hbm, 90, rfl⟩
abbrev main_cst_26 : Ref sig .tc := ⟨.hbm, 91, rfl⟩
abbrev main_cst_27 : Ref sig .tc := ⟨.hbm, 92, rfl⟩
abbrev main_call9_v0 : Ref sig .tc := ⟨.hbm, 93, rfl⟩
abbrev main_call9_v1 : Ref sig .tc := ⟨.hbm, 94, rfl⟩
abbrev main_v49 : Ref sig .tc := ⟨.hbm, 95, rfl⟩
abbrev main_v50 : Ref sig .tc := ⟨.hbm, 96, rfl⟩
abbrev main_cst_28 : Ref sig .tc := ⟨.hbm, 97, rfl⟩
abbrev main_cst_29 : Ref sig .tc := ⟨.hbm, 98, rfl⟩
abbrev main_call11_v0 : Ref sig .tc := ⟨.hbm, 99, rfl⟩
abbrev main_call11_v1 : Ref sig .tc := ⟨.hbm, 100, rfl⟩
abbrev main_v51 : Ref sig .tc := ⟨.hbm, 101, rfl⟩
abbrev main_cst_30 : Ref sig .tc := ⟨.hbm, 102, rfl⟩
abbrev main_cst_31 : Ref sig .tc := ⟨.hbm, 103, rfl⟩
abbrev main_call12_v0 : Ref sig .tc := ⟨.hbm, 104, rfl⟩
abbrev main_call12_v1 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59_0 : Ref sig .tc := ⟨.hbm, 113, rfl⟩
abbrev main_v59_1 : Ref sig .tc := ⟨.hbm, 114, rfl⟩
abbrev main_v59_2 : Ref sig .tc := ⟨.hbm, 115, rfl⟩
abbrev main_v59_3 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x1792 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10240x1792 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10240x12288 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.lean ====
module

public import proofs.«01_k».proof.Proof.Gen.Kernel.Skeleton
public import proofs.«01_k».proof.Proof.Gen.Kernel.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body on whole memrefs, the inputs at read contents and every other buffer at anything, runs to the
    continuation holding the inputs as they were and every other buffer at something. -/
theorem sound_any (c : Dev nD) (E : Set ℕ) (i : grid0.Coords) (arg2 : Memref sig .tc .smem S1 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1792 .i8) (harg5 : arg5.IsWhole) (arg6 : Memref sig .tc .vmem S64x3584 .fp8e4m3) (harg6 : arg6.IsWhole) (arg7 : Memref sig .tc .vmem S1024x1792 .fp8e4m3) (harg7 : arg7.IsWhole) (arg8 : Memref sig .tc .vmem S1x8x128 .f32) (harg8 : arg8.IsWhole) (arg9 : Memref sig .tc .vmem S1024x1024 .fp8e4m3) (harg9 : arg9.IsWhole) (arg10 : Memref sig .tc .vmem S1x8x128 .f32) (harg10 : arg10.IsWhole) (arg11 : Memref sig .tc .vmem S1024x3584 .f32) (harg11 : arg11.IsWhole) (arg12 : Memref sig .tc .vmem S1024x1792 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole)
    (x2 : Vec F S1 .f32) (x3 : Vec F S1024x1024 .bf16) (x4 : Vec F S1024x1024 .bf16) (x5 : Vec F S1024x1792 .i8) (x6 : Vec F S64x3584 .fp8e4m3) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gate_up_swiglu_eq_skeleton]; unfold cc0_gate_up_swiglu_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  iexists _, _; isplitr
  swap; · iexact H16
  ipureintro; rfl

variable (m : (ℓ : Loc nD τ sig) → Buf (Elt F) ℓ) (ρ : Dev nD → PrngReg)

/-- The four result windows: nothing is said here of what the body leaves in them. -/
def fgt : Fin cfg0.W → Bool
  | ⟨n, _⟩ => decide (5 ≤ n)

/-- The proof data of the frame: the arrays as the region finds them, each input's buffer at its block after the body,
    the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- The body at any point: the inputs' memrefs hold their blocks, the scratch is opened out of the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [← owns_whole]
  iintro ⟨⟨⟨S0, S1, S2, S3, S4, S5⟩, Hr⟩, Ho, ⟨%d0, H0⟩, ⟨%d1, H1⟩, ⟨%d2, H2⟩, ⟨%d3, H3⟩, ⟨%d4, H4⟩, H5, H6, H7, H8⟩
  iapply (sound_any c Set.univ _ _ _ _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hr]
  · isplitr [Hr]
    · isplitl [S0]; · iexact S0
      isplitl [S1]; · iexact S1
      isplitl [S2]; · iexact S2
      isplitl [S3]; · iexact S3
      isplitl [S4]; · iexact S4
      iexact S5
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the result windows forgotten. -/
theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every array but the results' as launched, and every semaphore counter at zero at every final state. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME: the run terminates, the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      (Pipeline.RDat.FramePost.arr_in h.1 c 3 rfl).trans ((A_eq m c 3).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel.Hand

end
-- ==== Proof.KernelIdealFrame.lean ====
module

public import proofs.«01_k».proof.Proof.Gen.KernelIdeal.Skeleton
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body on whole memrefs, the inputs at read contents and every other buffer at anything, runs to the
    continuation holding the inputs as they were and every other buffer at something. -/
theorem sound_any (c : Dev nD) (E : Set ℕ) (i : grid0.Coords) (arg2 : Memref sig .tc .smem S1 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1792 .i8) (harg5 : arg5.IsWhole) (arg6 : Memref sig .tc .vmem S64x3584 .fp8e4m3) (harg6 : arg6.IsWhole) (arg7 : Memref sig .tc .vmem S1024x1792 .fp8e4m3) (harg7 : arg7.IsWhole) (arg8 : Memref sig .tc .vmem S1x8x128 .f32) (harg8 : arg8.IsWhole) (arg9 : Memref sig .tc .vmem S1024x1024 .fp8e4m3) (harg9 : arg9.IsWhole) (arg10 : Memref sig .tc .vmem S1x8x128 .f32) (harg10 : arg10.IsWhole) (arg11 : Memref sig .tc .vmem S1024x3584 .f32) (harg11 : arg11.IsWhole) (arg12 : Memref sig .tc .vmem S1024x1792 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole)
    (x2 : Vec F S1 .f32) (x3 : Vec F S1024x1024 .bf16) (x4 : Vec F S1024x1024 .bf16) (x5 : Vec F S1024x1792 .i8) (x6 : Vec F S64x3584 .fp8e4m3) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gate_up_swiglu_eq_skeleton]; unfold cc0_gate_up_swiglu_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _, _; isplitr
    swap; · iexact H7
    ipureintro; rfl
  isplitl [H8]
  · iexists _, _; isplitr
    swap; · iexact H8
    ipureintro; rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  iexists _, _; isplitr
  swap; · iexact H16
  ipureintro; rfl

variable (m : (ℓ : Loc nD τ sig) → Buf (Elt F) ℓ) (ρ : Dev nD → PrngReg)

/-- The four result windows: nothing is said here of what the body leaves in them. -/
def fgt : Fin cfg0.W → Bool
  | ⟨n, _⟩ => decide (5 ≤ n)

/-- The proof data of the frame: the arrays as the region finds them, each input's buffer at its block after the body,
    the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X))

/-- The body at any point: the inputs' memrefs hold their blocks, the scratch is opened out of the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [← owns_whole]
  iintro ⟨⟨⟨S0, S1, S2, S3, S4, S5⟩, Hr⟩, Ho, ⟨%d0, H0⟩, ⟨%d1, H1⟩, ⟨%d2, H2⟩, ⟨%d3, H3⟩, ⟨%d4, H4⟩, H5, H6, H7, H8⟩
  iapply (sound_any c Set.univ _ _ _ _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hr]
  · isplitr [Hr]
    · isplitl [S0]; · iexact S0
      isplitl [S1]; · iexact S1
      isplitl [S2]; · iexact S2
      isplitl [S3]; · iexact S3
      isplitl [S4]; · iexact S4
      iexact S5
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the result windows forgotten. -/
theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every array but the results' as launched, and every semaphore counter at zero at every final state. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME: the run terminates, the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      (Pipeline.RDat.FramePost.arr_in h.1 c 3 rfl).trans ((A_eq m c 3).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Hand

end
-- ==== Proof.BodyFns.lean ====
module

public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic

/-! What one grid point of the kernel leaves in each buffer, as a function of what the buffers held before it. The
    stores are given as lists of pieces, the last store first. -/

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-! ## The rectangles -/

/-- The whole of a 1024 by 128 buffer. -/
abbrev rW : Rect S1024x128 := Rect.unit (s := S1024x128) ![0, 0] S1024x128.size inb_S1024x128_S1024x128_0_0

/-- The whole of a 1024 by 1024 buffer. -/
abbrev rB : Rect S1024x1024 :=
  Rect.unit (s := S1024x1024) ![0, 0] S1024x1024.size inb_S1024x1024_S1024x1024_0_0

/-- Columns `128 n …` of a 1024 by 1024 block. -/
abbrev rX (n : Fin 8) : Rect S1024x1024 := Rect.unit (s := S1024x1024) ![0, 128 * n.val] S1024x128.size
  (Fin.forall_fin_two.mpr ⟨by show 0 + 1024 ≤ 1024; omega, by have := n.isLt; show 128 * n.val + 128 ≤ 1024; omega⟩)

/-- Columns `128 n …` of a 1024 by 1792 block. -/
abbrev rH (n : Fin 14) : Rect S1024x1792 := Rect.unit (s := S1024x1792) ![0, 128 * n.val] S1024x128.size
  (Fin.forall_fin_two.mpr ⟨by show 0 + 1024 ≤ 1024; omega, by have := n.isLt; show 128 * n.val + 128 ≤ 1792; omega⟩)

/-- The 256 columns of the accumulator's group `n`. -/
abbrev rA (n : Fin 14) : Rect S1024x3584 := Rect.unit (s := S1024x3584) ![0, 256 * n.val] S1024x256.size
  (Fin.forall_fin_two.mpr ⟨by show 0 + 1024 ≤ 1024; omega, by have := n.isLt; show 256 * n.val + 256 ≤ 3584; omega⟩)

/-- The gate's 128 columns of group `n`. -/
abbrev rG (n : Fin 14) : Rect S1024x3584 := Rect.unit (s := S1024x3584) ![0, 256 * n.val] S1024x128.size
  (Fin.forall_fin_two.mpr ⟨by show 0 + 1024 ≤ 1024; omega, by have := n.isLt; show 256 * n.val + 128 ≤ 3584; omega⟩)

/-- The up projection's 128 columns of group `n`. -/
abbrev rU (n : Fin 14) : Rect S1024x3584 := Rect.unit (s := S1024x3584) ![0, 256 * n.val + 128] S1024x128.size
  (Fin.forall_fin_two.mpr ⟨by show 0 + 1024 ≤ 1024; omega, by have := n.isLt; show 256 * n.val + 128 + 128 ≤ 3584; omega⟩)

/-- The scales' 256 columns of group `n`. -/
abbrev rS (n : Fin 14) : Rect S64x3584 := Rect.unit (s := S64x3584) ![0, 256 * n.val] S64x256.size
  (Fin.forall_fin_two.mpr ⟨by show 0 + 64 ≤ 64; omega, by have := n.isLt; show 256 * n.val + 256 ≤ 3584; omega⟩)

/-- A load from a buffer the pieces `L` were stored into. -/
def canonRd {s : Shape} {e : EltTy} (L : List (View.Piece (Elt F) s e)) : (B : LoadRect s) → B.shape.Idx → Elt F e :=
  fun B j => View.canon L (B.idx j)

theorem canonRd_eq {κ : Kind} {sp : Space} {s : Shape} {e : EltTy} (v : View sig κ sp s e)
    (L : List (View.Piece (Elt F) s e)) : canonRd L = fun B => v.readCov L B :=
  funext fun B => (View.readCov_eq_canon' v L B).symm

/-! ## Region 1: the codes and the accumulator -/

/-- The x codes' pieces. -/
def LXc (inv : FVec F S1024x128 .f32) (x4 : Vec F S1024x1024 .bf16) : List (View.Piece (Elt F) S1024x1024 .fp8e4m3) :=
  [7, 6, 5, 4, 3, 2, 1, 0].map fun n : Fin 8 => ⟨rX n, k0_pay7 inv (View.ld x4 (rX n))⟩

/-- The same codes as the multiplication takes them. -/
def LXb (inv : FVec F S1024x128 .f32) (x4 : Vec F S1024x1024 .bf16) : List (View.Piece (Elt F) S1024x1024 .bf16) :=
  [7, 6, 5, 4, 3, 2, 1, 0].map fun n : Fin 8 => ⟨rX n, k0_pay8 inv (View.ld x4 (rX n))⟩

/-- One group of the accumulator's update: weights `q`, scales `s`, x codes `xb`, the old columns `a`. -/
def accF (i : grid0.Coords) (q : Vec F S1024x128 .i8) (s : Vec F S64x256 .fp8e4m3) (xb : Vec F S1024x1024 .bf16)
    (a : Vec F S1024x256 .f32) : FVec F S1024x256 .f32 :=
  k0_pay29 (BitVec.ofNat 32 (i 1).val) (k0_pay25 q) (k0_pay26 s) (k0_pay27 q) (k0_pay28 s) xb a

/-- The accumulator's pieces. -/
def LA (i : grid0.Coords) (x5 : Vec F S1024x1792 .i8) (x6 : Vec F S64x3584 .fp8e4m3) (xb : Vec F S1024x1024 .bf16)
    (y11 : Vec F S1024x3584 .f32) : List (View.Piece (Elt F) S1024x3584 .f32) :=
  [13, 12, 11, 10, 9, 8, 7, 6, 5, 4, 3, 2, 1, 0].map fun n : Fin 14 =>
    ⟨rA n, accF i (View.ld x5 (rH n)) (View.ld x6 (rS n)) xb (View.ld y11 (rA n))⟩

/-! ## The exponent -/

/-- `2 ^ v` by placing `v + 127` in the exponent field. -/
def p2F (v : IVec S1024x1 32) : FVec F S1024x1 .f32 :=
  bitcastToFloat .f32 (shli (addi v (broadcast S1024x1 127#32)) (broadcast S1024x1 23#32))

/-- One step of the search: raise the field by `s` if `y` is at least `2 ^ (field + s - 127)` (`w` is `s - 127`). -/
def stepF (y : FVec F S1024x1 .f32) (s w : BitVec 32) (f : IVec S1024x1 32) : IVec S1024x1 32 :=
  select (cmpf .oge y (p2F (addi f (broadcast S1024x1 w)))) (addi f (broadcast S1024x1 s)) f

/-- The exponent field of `y`. -/
def fieldF (y : FVec F S1024x1 .f32) : IVec S1024x1 32 :=
  stepF y 1#32 4294967170#32 (stepF y 2#32 4294967171#32 (stepF y 4#32 4294967173#32 (stepF y 8#32 4294967177#32
    (stepF y 16#32 4294967185#32 (stepF y 32#32 4294967201#32 (stepF y 63#32 4294967232#32
      (stepF y 126#32 4294967295#32 (broadcast S1024x1 0#32))))))))

/-- The scale's exponent. -/
def expF (y : FVec F S1024x1 .f32) : IVec S1024x1 32 :=
  select (cmpf .oeq y (broadcast S1024x1 (Scalar.ofBits .f32 0x00000000#32 : F .f32))) (broadcast S1024x1 0#32)
    (subi (fieldF y) (broadcast S1024x1 126#32))

/-- `2 ^ e`, the same in every lane. -/
def rowsF (e : IVec S1024x1 32) : FVec F S1024x128 .f32 :=
  broadcastTo S1024x128 (shapeCast S1024x1 (p2F (F := F) e) shapeCasts_S1024x1_S1024x1) broadcasts_S1024x1_S1024x128

/-- `- e`. -/
def negF (e : IVec S1024x1 32) : IVec S1024x1 32 := subi (broadcast S1024x1 0#32) e

/-! ## Region 2: h, its scale and its codes -/

/-- The pieces of h, `rd` loading from the accumulator. -/
def LH (wg : Elt F .f32) (sc : FVec F S1024x128 .f32) (rd : (B : LoadRect S1024x3584) → B.shape.Idx → Elt F .f32) :
    List (View.Piece (Elt F) S1024x1792 .f32) :=
  [13, 12, 11, 10, 9, 8, 7, 6, 5, 4, 3, 2, 1, 0].map fun n : Fin 14 =>
    ⟨rH n, k0_pay88 wg sc (rd (rG n).toLoadRect) (rd (rU n).toLoadRect)⟩

/-- The running maximum of |h| over the groups. -/
def hmaxF (wg : Elt F .f32) (sc : FVec F S1024x128 .f32) (rd : (B : LoadRect S1024x3584) → B.shape.Idx → Elt F .f32) :
    FVec F S1024x128 .f32 :=
  [0, 1, 2, 3, 4, 5, 6, 7, 8, 9, 10, 11, 12, 13].foldl (fun v (n : Fin 14) =>
    maximumf v (absf (k0_pay87 wg sc (rd (rG n).toLoadRect) (rd (rU n).toLoadRect))))
    (broadcast S1024x128 (Scalar.ofBits .f32 0x00000000#32 : F .f32))

/-- h's exponents. -/
def hexpF (wg : Elt F .f32) (sc : FVec F S1024x128 .f32) (rd : (B : LoadRect S1024x3584) → B.shape.Idx → Elt F .f32) :
    IVec S1024x1 32 := expF (k0_pay166 (hmaxF wg sc rd))

/-- The pieces of h's codes, `rdh` loading from h. -/
def LHc (e : IVec S1024x1 32) (rdh : (B : LoadRect S1024x1792) → B.shape.Idx → Elt F .f32) :
    List (View.Piece (Elt F) S1024x1792 .fp8e4m3) :=
  [13, 12, 11, 10, 9, 8, 7, 6, 5, 4, 3, 2, 1, 0].map fun n : Fin 14 =>
    ⟨rH n, k0_pay147 (rowsF (negF e)) (rdh (rH n).toLoadRect)⟩

/-! ## What the point leaves in every buffer -/

/-- The third and fourth conditions of the body. -/
abbrev cond3 (i : grid0.Coords) : Prop :=
  Scalar.cmpi .ne (Scalar.extui (Scalar.cmpi .slt (BitVec.ofNat 32 (i 0).val) 10#32) : BitVec 32) 0#32 = 1#1
abbrev cond4 (i : grid0.Coords) : Prop :=
  Scalar.cmpi .ne (Scalar.extui (Scalar.cmpi .eq (BitVec.ofNat 32 (i 1).val) 11#32) : BitVec 32) 0#32 = 1#1

/-- The x codes. -/
def outXc (i : grid0.Coords) (x4 : Vec F S1024x1024 .bf16) (y16 : Vec F S1024x128 .f32)
    (y9 : Vec F S1024x1024 .fp8e4m3) : Vec F S1024x1024 .fp8e4m3 :=
  if k0_cond1 i = 1#1 then View.canon (LXc (View.ld y16 rW) x4) else y9

def outXb (i : grid0.Coords) (x4 : Vec F S1024x1024 .bf16) (y16 : Vec F S1024x128 .f32)
    (y13 : Vec F S1024x1024 .bf16) : Vec F S1024x1024 .bf16 :=
  if k0_cond1 i = 1#1 then View.canon (LXb (View.ld y16 rW) x4) else y13

/-- The accumulator's pieces after the point. -/
def LAcc (i : grid0.Coords) (x4 : Vec F S1024x1024 .bf16) (x5 : Vec F S1024x1792 .i8) (x6 : Vec F S64x3584 .fp8e4m3)
    (y16 : Vec F S1024x128 .f32) (y11 : Vec F S1024x3584 .f32) : List (View.Piece (Elt F) S1024x3584 .f32) :=
  LA i x5 x6 (canonRd (LXb (View.ld y16 rW) x4) rB.toLoadRect) y11

def outAcc (i : grid0.Coords) (x4 : Vec F S1024x1024 .bf16) (x5 : Vec F S1024x1792 .i8) (x6 : Vec F S64x3584 .fp8e4m3)
    (y16 : Vec F S1024x128 .f32) (y11 : Vec F S1024x3584 .f32) : Vec F S1024x3584 .f32 :=
  if k0_cond1 i = 1#1 then View.canon (LAcc i x4 x5 x6 y16 y11) else y11

/-- The one number of the global weight scale. -/
def wgF (x2 : Vec F S1 .f32) : Elt F .f32 := View.ld x2 (Rect.unit (s := S1) ![0] S1.size inb_S1_S1_0)
  (Shape.Idx.first (numel1_S1.symm ▸ Nat.one_pos))

/-- The pieces of h after the point. -/
def LHh (i : grid0.Coords) (x2 : Vec F S1 .f32) (x4 : Vec F S1024x1024 .bf16) (x5 : Vec F S1024x1792 .i8)
    (x6 : Vec F S64x3584 .fp8e4m3) (y15 y16 : Vec F S1024x128 .f32) (y11 : Vec F S1024x3584 .f32) :
    List (View.Piece (Elt F) S1024x1792 .f32) :=
  LH (wgF x2) (View.ld y15 rW) (canonRd (LAcc i x4 x5 x6 y16 y11))

def outH (i : grid0.Coords) (x2 : Vec F S1 .f32) (x4 : Vec F S1024x1024 .bf16) (x5 : Vec F S1024x1792 .i8)
    (x6 : Vec F S64x3584 .fp8e4m3) (y15 y16 : Vec F S1024x128 .f32) (y11 : Vec F S1024x3584 .f32)
    (y12 : Vec F S1024x1792 .f32) : Vec F S1024x1792 .f32 :=
  if k0_cond2 i = 1#1 then View.canon (LHh i x2 x4 x5 x6 y15 y16 y11) else y12

/-- h's exponents at the point. -/
def hexpAt (i : grid0.Coords) (x2 : Vec F S1 .f32) (x4 : Vec F S1024x1024 .bf16) (x5 : Vec F S1024x1792 .i8)
    (x6 : Vec F S64x3584 .fp8e4m3) (y15 y16 : Vec F S1024x128 .f32) (y11 : Vec F S1024x3584 .f32) : IVec S1024x1 32 :=
  hexpF (wgF x2) (View.ld y15 rW) (canonRd (LAcc i x4 x5 x6 y16 y11))

def outHc (i : grid0.Coords) (x2 : Vec F S1 .f32) (x4 : Vec F S1024x1024 .bf16) (x5 : Vec F S1024x1792 .i8)
    (x6 : Vec F S64x3584 .fp8e4m3) (y15 y16 : Vec F S1024x128 .f32) (y11 : Vec F S1024x3584 .f32)
    (y7 : Vec F S1024x1792 .fp8e4m3) : Vec F S1024x1792 .fp8e4m3 :=
  if k0_cond2 i = 1#1 then
    View.canon (LHc (hexpAt i x2 x4 x5 x6 y15 y16 y11) (canonRd (LHh i x2 x4 x5 x6 y15 y16 y11)))
  else y7

/-- h's scales, one row of 128 rows' scales to each of eight lanes rows. -/
def outHs (i : grid0.Coords) (x2 : Vec F S1 .f32) (x4 : Vec F S1024x1024 .bf16) (x5 : Vec F S1024x1792 .i8)
    (x6 : Vec F S64x3584 .fp8e4m3) (y15 y16 : Vec F S1024x128 .f32) (y11 : Vec F S1024x3584 .f32)
    (y8 : Vec F S1x8x128 .f32) : Vec F S1x8x128 .f32 :=
  if k0_cond2 i = 1#1 then k0_pay165 (rowsF (hexpAt i x2 x4 x5 x6 y15 y16 y11)) else y8

/-- The x scales likewise. -/
def outXs (i : grid0.Coords) (y15 : Vec F S1024x128 .f32) (y10 : Vec F S1x8x128 .f32) : Vec F S1x8x128 .f32 :=
  if k0_cond2 i = 1#1 then k0_pay165 (View.ld y15 rW) else y10

/-- The running maximum of |x|. -/
def outMax (i : grid0.Coords) (x3 : Vec F S1024x1024 .bf16) (y14 : Vec F S1024x128 .f32) : Vec F S1024x128 .f32 :=
  if cond3 i then k0_pay2 i (View.ld x3 rB) (View.ld y14 rW) else y14

/-- The exponents the next row tile takes. -/
def xexpAt (i : grid0.Coords) (x3 : Vec F S1024x1024 .bf16) (y14 : Vec F S1024x128 .f32) : IVec S1024x1 32 :=
  expF (k0_pay166 (canonRd [⟨rW, k0_pay2 i (View.ld x3 rB) (View.ld y14 rW)⟩] rW.toLoadRect))

def outSc (i : grid0.Coords) (x3 : Vec F S1024x1024 .bf16) (y14 y15 : Vec F S1024x128 .f32) : Vec F S1024x128 .f32 :=
  if cond3 i ∧ cond4 i then
    shapeCast S1024x128 (rowsF (F := F) (xexpAt i x3 y14)) shapeCasts_S1024x128_S1024x128 else y15

def outInv (i : grid0.Coords) (x3 : Vec F S1024x1024 .bf16) (y14 y16 : Vec F S1024x128 .f32) : Vec F S1024x128 .f32 :=
  if cond3 i ∧ cond4 i then
    shapeCast S1024x128 (rowsF (F := F) (negF (xexpAt i x3 y14))) shapeCasts_S1024x128_S1024x128 else y16

end Cert.KernelIdeal.Hand

end
-- ==== Proof.BodyRun.lean ====
module

public import proofs.«01_k».proof.Proof.BodyFns
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, as a constant function. -/
theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 16000000 in
/-- The kernel body on whole memrefs at known contents runs to the continuation holding every buffer at the value
    `BodyFns` names. -/
theorem sound_val (c : Dev nD) (E : Set ℕ) (i : grid0.Coords) (hc : k0_cond2 i = 1#1 → k0_cond1 i = 1#1)
    (arg2 : Memref sig .tc .smem S1 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1792 .i8) (harg5 : arg5.IsWhole) (arg6 : Memref sig .tc .vmem S64x3584 .fp8e4m3) (harg6 : arg6.IsWhole) (arg7 : Memref sig .tc .vmem S1024x1792 .fp8e4m3) (harg7 : arg7.IsWhole) (arg8 : Memref sig .tc .vmem S1x8x128 .f32) (harg8 : arg8.IsWhole) (arg9 : Memref sig .tc .vmem S1024x1024 .fp8e4m3) (harg9 : arg9.IsWhole) (arg10 : Memref sig .tc .vmem S1x8x128 .f32) (harg10 : arg10.IsWhole) (arg11 : Memref sig .tc .vmem S1024x3584 .f32) (harg11 : arg11.IsWhole) (arg12 : Memref sig .tc .vmem S1024x1792 .f32) (harg12 : arg12.IsWhole) (arg13 : Memref sig .tc .vmem S1024x1024 .bf16) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .f32) (harg16 : arg16.IsWhole)
    (x2 : Vec F S1 .f32) (x3 : Vec F S1024x1024 .bf16) (x4 : Vec F S1024x1024 .bf16) (x5 : Vec F S1024x1792 .i8) (x6 : Vec F S64x3584 .fp8e4m3)
    (y7 : Vec F S1024x1792 .fp8e4m3) (y8 : Vec F S1x8x128 .f32) (y9 : Vec F S1024x1024 .fp8e4m3) (y10 : Vec F S1x8x128 .f32) (y11 : Vec F S1024x3584 .f32) (y12 : Vec F S1024x1792 .f32) (y13 : Vec F S1024x1024 .bf16) (y14 : Vec F S1024x128 .f32) (y15 : Vec F S1024x128 .f32) (y16 : Vec F S1024x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outHc i x2 x4 x5 x6 y15 y16 y11 y7) ∗ owns (c : Thread nD τ) arg8 fullShare (outHs i x2 x4 x5 x6 y15 y16 y11 y8) ∗ owns (c : Thread nD τ) arg9 fullShare (outXc i x4 y16 y9) ∗ owns (c : Thread nD τ) arg10 fullShare (outXs i y15 y10) ∗ owns (c : Thread nD τ) arg11 fullShare (outAcc i x4 x5 x6 y16 y11) ∗ owns (c : Thread nD τ) arg12 fullShare (outH i x2 x4 x5 x6 y15 y16 y11 y12) ∗ owns (c : Thread nD τ) arg13 fullShare (outXb i x4 y16 y13) ∗ owns (c : Thread nD τ) arg14 fullShare (outMax i x3 y14) ∗ owns (c : Thread nD τ) arg15 fullShare (outSc i x3 y14 y15) ∗ owns (c : Thread nD τ) arg16 fullShare (outInv i x3 y14 y16)) -∗ K ⟨⟩))
      ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gate_up_swiglu_eq_skeleton]; unfold cc0_gate_up_swiglu_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2 hf3 hf4 hf5 hf6 hf7 hf8 hf9 hf10 hf11 hf12 hf13 hf14 hf15 hf16
  by_cases h1 : k0_cond1 i = 1#1 <;> by_cases h2 : k0_cond2 i = 1#1 <;> by_cases h3 : cond3 i <;> by_cases h4 : cond4 i
  all_goals first | exact absurd (hc h2) h1 | skip
  all_goals
    sl_exec
    sl_step
    iapply Hk
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; first
        | exact (if_neg h2).symm
        | (unfold outHc; rw [if_pos h2]; refine Eq.trans (View.read_writes_eq_canon (Val := Elt F) _ _ _ ?_) ?_; exact View.cover_of_tiledL _ S1024x128.size (by sl_kernel_rfl); unfold hexpAt LHh LAcc; rw [canonRd_eq arg12.view, canonRd_eq arg11.view, canonRd_eq arg13.view]; rfl)
    isplitl [H8]
    · iexists _; isplitr
      swap; · iexact H8
      ipureintro; first
        | exact (if_neg h2).symm
        | (unfold outHs; rw [if_pos h2]; refine Eq.trans (View.read_writes_eq_canon (Val := Elt F) _ _ _ ?_) ?_; exact View.cover_of_tiledL _ S1x8x128.size (by sl_kernel_rfl); refine (View.canon_unit_zero hz3 _ _).trans ?_; unfold hexpAt LAcc; rw [canonRd_eq arg11.view, canonRd_eq arg13.view]; rfl)
    isplitl [H9]
    · iexists _; isplitr
      swap; · iexact H9
      ipureintro; first
        | exact (if_neg h1).symm
        | (unfold outXc; rw [if_pos h1]; refine Eq.trans (View.read_writes_eq_canon (Val := Elt F) _ _ _ ?_) ?_; exact View.cover_of_tiledL _ S1024x128.size (by sl_kernel_rfl); rfl)
    isplitl [H10]
    · iexists _; isplitr
      swap; · iexact H10
      ipureintro; first
        | exact (if_neg h2).symm
        | (unfold outXs; rw [if_pos h2]; refine Eq.trans (View.read_writes_eq_canon (Val := Elt F) _ _ _ ?_) ?_; exact View.cover_of_tiledL _ S1x8x128.size (by sl_kernel_rfl); refine (View.canon_unit_zero hz3 _ _).trans ?_; rfl)
    isplitl [H11]
    · iexists _; isplitr
      swap; · iexact H11
      ipureintro; first
        | exact (if_neg h1).symm
        | (unfold outAcc; rw [if_pos h1]; refine Eq.trans (View.read_writes_eq_canon (Val := Elt F) _ _ _ ?_) ?_; exact View.cover_of_tiledL _ S1024x256.size (by sl_kernel_rfl); unfold LAcc; rw [canonRd_eq arg13.view]; rfl)
    isplitl [H12]
    · iexists _; isplitr
      swap; · iexact H12
      ipureintro; first
        | exact (if_neg h2).symm
        | (unfold outH; rw [if_pos h2]; refine Eq.trans (View.read_writes_eq_canon (Val := Elt F) _ _ _ ?_) ?_; exact View.cover_of_tiledL _ S1024x128.size (by sl_kernel_rfl); unfold LHh LAcc; rw [canonRd_eq arg11.view, canonRd_eq arg13.view]; rfl)
    isplitl [H13]
    · iexists _; isplitr
      swap; · iexact H13
      ipureintro; first
        | exact (if_neg h1).symm
        | (unfold outXb; rw [if_pos h1]; refine Eq.trans (View.read_writes_eq_canon (Val := Elt F) _ _ _ ?_) ?_; exact View.cover_of_tiledL _ S1024x128.size (by sl_kernel_rfl); rfl)
    isplitl [H14]
    · iexists _; isplitr
      swap; · iexact H14
      ipureintro; first
        | exact (if_neg h3).symm
        | (unfold outMax; rw [if_pos h3]; refine Eq.trans (View.read_writes_eq_canon (Val := Elt F) _ _ _ ?_) ?_; exact View.cover_of_tiledL _ S1024x128.size (by sl_kernel_rfl); refine (View.canon_unit_zero hz2 _ _).trans ?_; rfl)
    isplitl [H15]
    · iexists _; isplitr
      swap; · iexact H15
      ipureintro; first
        | exact (if_neg fun h => by first | exact h3 h.1 | exact h4 h.2).symm
        | (unfold outSc; rw [if_pos ⟨h3, h4⟩]; refine Eq.trans (View.read_writes_eq_canon (Val := Elt F) _ _ _ ?_) ?_; exact View.cover_of_tiledL _ S1024x128.size (by sl_kernel_rfl); refine (View.canon_unit_zero hz2 _ _).trans ?_; unfold xexpAt; rw [canonRd_eq arg14.view]; rfl)
    iexists _; isplitr
    swap; · iexact H16
    ipureintro; first
      | exact (if_neg fun h => by first | exact h3 h.1 | exact h4 h.2).symm
      | (unfold outInv; rw [if_pos ⟨h3, h4⟩]; refine Eq.trans (View.read_writes_eq_canon (Val := Elt F) _ _ _ ?_) ?_; exact View.cover_of_tiledL _ S1024x128.size (by sl_kernel_rfl); refine (View.canon_unit_zero hz2 _ _).trans ?_; unfold xexpAt; rw [canonRd_eq arg14.view]; rfl)

end Cert.KernelIdeal.Hand

end
-- ==== Proof.Nibble.lean ====
module

public import proofs.«01_k».proof.Proof.Gen.KernelIdeal.Skeleton
public import Idealize.ShloMosaic.Lib.BitcastFour
public import Idealize.ShloMosaic.Lib.Pointwise

/-! Four packed bytes in a word become four e4m3 bytes at once; byte by byte, this is a shift and a mask. -/

@[expose] public section

set_option maxRecDepth 16384

noncomputable section

namespace Cert.KernelIdeal.Hand

open Idealize.ShloMosaic Cert.KernelIdeal Cert.KernelIdeal.Gen

/-- The e4m3 byte of a byte's low nibble, and of its high one. -/
def lob (b : BitVec 8) : BitVec 8 := ((b &&& 8#8) <<< 4) ||| ((b &&& 7#8) <<< 2)
def hib (b : BitVec 8) : BitVec 8 := (b &&& 128#8) ||| ((b >>> 2) &&& 28#8)

/-- One bit of a word of four rows' bytes, read back as four rows. -/
theorem narrow_getLsbD (x : S256x128.Idx → BitVec 32) (r : Fin 1024) (l : Fin 128) (q : ℕ) (hq : q < 8) :
    (bitcast S1024x128 8 x bitcasts_S256x128_w32_S1024x128_w8 (ix2 r l)).getLsbD q
      = (x (ix2 (⟨r.val / 4, by omega⟩ : Fin 256) l)).getLsbD (8 * (r.val % 4) + q) := by
  rw [bitcast_getLsbD x _ _ q hq (by decide)]
  have e1 : (S1024x128.row (ix2 r l) * 8 + q) / 32 = r.val / 4 := by
    show (r.val * 8 + q) / 32 = _
    omega
  have e2 : (S1024x128.row (ix2 r l) * 8 + q) % 32 = 8 * (r.val % 4) + q := by
    show (r.val * 8 + q) % 32 = _
    omega
  rw [e2]
  congr 2
  funext c
  refine Fin.ext ?_
  match c with
  | ⟨0, _⟩ => exact e1
  | ⟨1, _⟩ => rfl

theorem wide_getLsbD (x : S1024x128.Idx → BitVec 8) (a : Fin 256) (l : Fin 128) (q : ℕ) (hq : q < 32) (p : Fin 1024)
    (hp : p.val = 4 * a.val + q / 8) :
    (bitcast S256x128 32 x bitcasts_S1024x128_w8_S256x128_w32 (ix2 a l)).getLsbD q = (x (ix2 p l)).getLsbD (q % 8) :=
  bitcast_8_32_getLsbD_ix2 x _ a l q hq p hp

/-- A word operation that acts byte by byte as `g`, read back at a row. -/
theorem bytewise (x : S1024x128.Idx → BitVec 8) (f : BitVec 32 → BitVec 32) (g : BitVec 8 → BitVec 8)
    (hfg : ∀ (w : BitVec 32) (b : BitVec 8) (j : ℕ), j < 4 → (∀ q < 8, w.getLsbD (8 * j + q) = b.getLsbD q) →
      ∀ q < 8, (f w).getLsbD (8 * j + q) = (g b).getLsbD q)
    (r : Fin 1024) (l : Fin 128) :
    bitcast S1024x128 8 (fun i => f (bitcast S256x128 32 x bitcasts_S1024x128_w8_S256x128_w32 i))
      bitcasts_S256x128_w32_S1024x128_w8 (ix2 r l) = g (x (ix2 r l)) := by
  apply BitVec.eq_of_getLsbD_eq
  intro q hq
  rw [narrow_getLsbD _ r l q hq]
  refine hfg _ _ _ (Nat.mod_lt _ (by omega)) (fun q' hq' => ?_) q hq
  rw [wide_getLsbD x _ l _ (by omega) r (by show r.val = 4 * (r.val / 4) + _; omega)]
  congr 1
  omega

theorem lo_bytes (w : BitVec 32) (b : BitVec 8) (j : ℕ) (hj : j < 4) (h : ∀ q < 8, w.getLsbD (8 * j + q) = b.getLsbD q) :
    ∀ q < 8, (IntOp.ori (IntOp.shli .vector (IntOp.andi w 134744072#32) 4#32)
      (IntOp.shli .vector (IntOp.andi w 117901063#32) 2#32)).getLsbD (8 * j + q) = (lob b).getLsbD q := by
  intro q hq
  have h0 := h 0 (by omega); have h1 := h 1 (by omega); have h2 := h 2 (by omega); have h3 := h 3 (by omega)
  have h4 := h 4 (by omega); have h5 := h 5 (by omega); have h6 := h 6 (by omega); have h7 := h 7 (by omega)
  unfold lob IntOp.ori IntOp.andi IntOp.shli
  interval_cases j <;> interval_cases q <;> simp_all

theorem hi_bytes (w : BitVec 32) (b : BitVec 8) (j : ℕ) (hj : j < 4) (h : ∀ q < 8, w.getLsbD (8 * j + q) = b.getLsbD q) :
    ∀ q < 8, (IntOp.ori (IntOp.andi w 2155905152#32)
      (IntOp.andi (IntOp.shrsi .vector w 2#32) 471604252#32)).getLsbD (8 * j + q) = (hib b).getLsbD q := by
  intro q hq
  have h0 := h 0 (by omega); have h1 := h 1 (by omega); have h2 := h 2 (by omega); have h3 := h 3 (by omega)
  have h4 := h 4 (by omega); have h5 := h 5 (by omega); have h6 := h 6 (by omega); have h7 := h 7 (by omega)
  unfold hib IntOp.ori IntOp.andi IntOp.shrsi
  interval_cases j <;> interval_cases q <;> simp_all [BitVec.getElem_sshiftRight]

theorem pay27_apply (q : Vec Ideal S1024x128 .i8) (r : Fin 1024) (l : Fin 128) :
    k0_pay27 (F := Ideal) q (ix2 r l) = Ideal.e4m3fn (lob (q (ix2 r l))) :=
  congrArg Ideal.e4m3fn (bytewise q _ lob lo_bytes r l)

theorem pay25_apply (q : Vec Ideal S1024x128 .i8) (r : Fin 1024) (l : Fin 128) :
    k0_pay25 (F := Ideal) q (ix2 r l) = Ideal.e4m3fn (hib (q (ix2 r l))) :=
  congrArg Ideal.e4m3fn (bytewise q _ hib hi_bytes r l)

end Cert.KernelIdeal.Hand

end
-- ==== Proof.Ladder.lean ====
module

public import Idealize.ShloMosaic.PureOps.Ideal
public import Idealize.ShloMosaic.PureOps.Ideal.Laws
public import Idealize.ShloMosaic.Lib.IdealHost
public import Mathlib.Analysis.SpecialFunctions.Log.Basic

/-! The exponent of a scale, taken by a search over exponent fields with comparisons, is the one the logarithm gives. -/

@[expose] public section

set_option maxRecDepth 16384

noncomputable section

namespace Cert.Scale

open Idealize.ShloMosaic

/-- The power of two whose exponent field is `m`. -/
def T (m : ℕ) : EReal := (((2 : ℝ) ^ ((m : ℤ) - 127) : ℝ) : EReal)

theorem T_mono {m n : ℕ} (h : m ≤ n) : T m ≤ T n := by
  unfold T
  rw [EReal.coe_le_coe_iff]
  exact zpow_le_zpow_right₀ (by norm_num) (by omega)

theorem field_words : ∀ m : Fin 255, (BitVec.ofNat 32 m.val <<< 23).extractLsb' 31 1 = 0#1 ∧
    ((BitVec.ofNat 32 m.val <<< 23).extractLsb' 23 8).toNat = m.val ∧
    ((BitVec.ofNat 32 m.val <<< 23).extractLsb' 0 23).toNat = 0 := by decide +kernel

theorem ieee_real (z : ℤ) : (((1 : ℝ) * ((2 ^ 23 + 0 : ℕ) : ℝ) * (2 : ℝ) ^ (z - 23))) = (2 : ℝ) ^ z := by
  rw [zpow_sub₀ (by norm_num : (2 : ℝ) ≠ 0)]
  have : ((2 : ℝ) ^ (23 : ℤ)) = 8388608 := by norm_num
  rw [this]
  norm_num
  field_simp

theorem ofBits_field (m : ℕ) (h1 : 1 ≤ m) (h2 : m ≤ 254) :
    Ideal.ofBits .f32 (BitVec.ofNat 32 m <<< 23) = T m := by
  obtain ⟨ha, hb, hc⟩ := field_words ⟨m, by omega⟩
  generalize BitVec.ofNat 32 m <<< 23 = b at ha hb hc
  have e : Ideal.ofBits .f32 b = ((((1 : ℝ) * ((2 ^ 23 + 0 : ℕ) : ℝ) * (2 : ℝ) ^ ((((m : ℤ) - 127)) - 23)) : ℝ) : EReal) := by
    show Ideal.ieee 8 23 b = _
    unfold Ideal.ieee
    simp only [ha, hb, hc, show (8 + 23 : ℕ) = 31 from rfl]
    rw [if_neg (by omega), if_neg (by omega), if_neg (by decide)]
    norm_num
  rw [e, ieee_real]
  rfl

/-- `2 ^ v`, by a word. -/
def p2 (v : BitVec 32) : EReal := Ideal.ofBits .f32 (IntOp.shli .vector (IntOp.addi v 127#32) 23#32)

theorem p2_eq (v : BitVec 32) (m : ℕ) (h1 : 1 ≤ m) (h2 : m ≤ 254) (h : v + 127#32 = BitVec.ofNat 32 m) : p2 v = T m := by
  unfold p2
  rw [← ofBits_field m h1 h2, ← h]
  rfl

/-- The search's state with `r` still to be added: `f` holds a field at which `y` is at least the power of two, and
    `y` is below the power past the highest field it can reach. -/
def Lad (y : EReal) (r : ℕ) (f : BitVec 32) : Prop :=
  ∃ n : ℕ, f = BitVec.ofNat 32 n ∧ n + r ≤ 252 ∧ (n = 0 ∨ T n ≤ y) ∧ (n + r = 252 ∨ y < T (n + r + 1))

/-- One step of the search. -/
def step (y : EReal) (s w f : BitVec 32) : BitVec 32 :=
  if p2 (IntOp.addi f w) ≤ y then IntOp.addi f s else f

theorem Lad.step {y : EReal} {f w : BitVec 32} (s r : ℕ) (hw : w + 127#32 = BitVec.ofNat 32 s) (h1 : 1 ≤ s)
    (h2 : s ≤ r + 1) (h : Lad y (s + r) f) : Lad y r (step y (BitVec.ofNat 32 s) w f) := by
  obtain ⟨n, rfl, hn, hlo, hhi⟩ := h
  have e : p2 (IntOp.addi (BitVec.ofNat 32 n) w) = T (n + s) := by
    refine p2_eq _ _ (by omega) (by omega) ?_
    show BitVec.ofNat 32 n + w + 127#32 = _
    rw [BitVec.add_assoc, hw, ← BitVec.ofNat_add]
  unfold Scale.step
  rw [e]
  split
  next hc =>
    refine ⟨n + s, ?_, by omega, Or.inr hc, ?_⟩
    · simp [IntOp.addi, BitVec.ofNat_add]
    · rw [show n + s + r = n + (s + r) by omega]; exact hhi
  next hc =>
    refine ⟨n, rfl, by omega, hlo, Or.inr (lt_of_lt_of_le (not_le.mp hc) (T_mono (by omega)))⟩

/-- The whole search. -/
def field (y : EReal) : BitVec 32 :=
  step y 1#32 4294967170#32 (step y 2#32 4294967171#32 (step y 4#32 4294967173#32 (step y 8#32 4294967177#32
    (step y 16#32 4294967185#32 (step y 32#32 4294967201#32 (step y 63#32 4294967232#32
      (step y 126#32 4294967295#32 0#32)))))))

theorem field_lad (y : EReal) : Lad y 0 (field y) := by
  have h0 : Lad y (126 + 126) 0#32 := ⟨0, rfl, by norm_num, Or.inl rfl, Or.inl (by norm_num)⟩
  have h1 : Lad y (63 + 63) _ := Lad.step (w := 4294967295#32) 126 126 (by decide) (by omega) (by omega) h0
  have h2 : Lad y (32 + 31) _ := Lad.step (w := 4294967232#32) 63 63 (by decide) (by omega) (by omega) h1
  have h3 : Lad y (16 + 15) _ := Lad.step (w := 4294967201#32) 32 31 (by decide) (by omega) (by omega) h2
  have h4 : Lad y (8 + 7) _ := Lad.step (w := 4294967185#32) 16 15 (by decide) (by omega) (by omega) h3
  have h5 : Lad y (4 + 3) _ := Lad.step (w := 4294967177#32) 8 7 (by decide) (by omega) (by omega) h4
  have h6 : Lad y (2 + 1) _ := Lad.step (w := 4294967173#32) 4 3 (by decide) (by omega) (by omega) h5
  have h7 : Lad y (1 + 0) _ := Lad.step (w := 4294967171#32) 2 1 (by decide) (by omega) (by omega) h6
  exact Lad.step (w := 4294967170#32) 1 0 (by decide) (by omega) (by omega) h7

/-- The exponent as the search gives it. -/
def expW (y : EReal) : BitVec 32 := if y = 0 then 0#32 else IntOp.subi (field y) 126#32

/-- The exponent as the logarithm gives it. -/
def expL (y : EReal) : EReal :=
  if y = 0 then 0 else min 126 (max (-126) (Ideal.liftRound Int.floor (Ideal.div (Ideal.log y) (Ideal.log 2)) + 1))

theorem exp2_int (z : ℤ) : Ideal.exp2 (((z : ℝ) : ℝ) : EReal) = (((2 : ℝ) ^ z : ℝ) : EReal) := by
  show ((Real.rpow 2 (z : ℝ) : ℝ) : EReal) = _
  rw [show Real.rpow 2 (z : ℝ) = (2 : ℝ) ^ z from Real.rpow_intCast 2 z]

theorem log_two : Ideal.log 2 = ((Real.log 2 : ℝ) : EReal) := by
  show Ideal.log ((2 : ℝ) : EReal) = _
  show (if (2 : ℝ) ≤ 0 then ⊥ else ((Real.log 2 : ℝ) : EReal)) = _
  rw [if_neg (by norm_num)]

theorem div_log (r : ℝ) (hr : 0 < r) :
    Ideal.div (Ideal.log (r : EReal)) (Ideal.log 2) = ((Real.log r / Real.log 2 : ℝ) : EReal) := by
  have h2 : Real.log 2 ≠ 0 := (Real.log_pos (by norm_num)).ne'
  rw [log_two, show Ideal.log (r : EReal) = ((Real.log r : ℝ) : EReal) by
    show (if r ≤ 0 then ⊥ else (Real.log r : EReal)) = _
    rw [if_neg (not_le.mpr hr)]]
  unfold Ideal.div
  rw [if_neg (by exact_mod_cast h2), ← EReal.coe_inv, ← EReal.coe_mul]
  rfl

/-- The logarithm's exponent, from the field the search ends at. -/
theorem expL_eq (y : EReal) (hy : 0 ≤ y) (h0 : y ≠ 0) (n : ℕ) (hn : n ≤ 252) (hlo : n = 0 ∨ T n ≤ y)
    (hhi : n = 252 ∨ y < T (n + 1)) : expL y = (((n : ℤ) - 126 : ℤ) : ℝ) := by
  unfold expL
  rw [if_neg h0]
  induction y with
  | bot => exact absurd hy (by simp)
  | top =>
    have hn' : n = 252 := hhi.resolve_right (by simp)
    subst hn'
    have : Ideal.div (Ideal.log ⊤) (Ideal.log 2) = ⊤ := by
      have h2 : 0 < Real.log 2 := Real.log_pos (by norm_num)
      rw [log_two]
      unfold Ideal.div
      rw [if_neg (by exact_mod_cast h2.ne'), ← EReal.coe_inv]
      exact EReal.top_mul_coe_of_pos (by positivity)
    rw [this]
    show min 126 (max (-126) ((⊤ : EReal) + 1)) = _
    rw [show (⊤ : EReal) + 1 = ⊤ from rfl, max_eq_right le_top, min_eq_left le_top]
    norm_num
    rfl
  | coe r =>
    have hr : 0 < r := by
      have : (0 : ℝ) ≤ r := by exact_mod_cast hy
      exact lt_of_le_of_ne this (fun h => h0 (by rw [← h]; rfl))
    have hl2 : 0 < Real.log 2 := Real.log_pos (by norm_num)
    rw [div_log r hr]
    show min 126 (max (-126) ((((⌊Real.log r / Real.log 2⌋ : ℤ) : ℝ) : EReal) + 1)) = _
    have l1 : n = 0 ∨ (n : ℤ) - 127 ≤ ⌊Real.log r / Real.log 2⌋ := by
      refine hlo.imp id fun h => ?_
      rw [Int.le_floor, le_div_iff₀ hl2, ← Real.log_zpow, Real.log_le_log_iff (by positivity) hr]
      unfold T at h
      rwa [EReal.coe_le_coe_iff] at h
    have l2 : n = 252 ∨ ⌊Real.log r / Real.log 2⌋ < (n : ℤ) - 126 := by
      refine hhi.imp id fun h => ?_
      rw [Int.floor_lt, div_lt_iff₀ hl2, ← Real.log_zpow, Real.log_lt_log_iff hr (by positivity)]
      have h' : r < (2 : ℝ) ^ (((n + 1 : ℕ) : ℤ) - 127) := by unfold T at h; rwa [EReal.coe_lt_coe_iff] at h
      rwa [show ((n + 1 : ℕ) : ℤ) - 127 = (n : ℤ) - 126 by push_cast; ring] at h'
    generalize ⌊Real.log r / Real.log 2⌋ = z at l1 l2
    have key : min 126 (max (-126) (z + 1)) = (n : ℤ) - 126 := by omega
    have c : (((min 126 (max (-126) (z + 1)) : ℤ) : ℝ) : EReal) = min 126 (max (-126) (((z : ℝ) : EReal) + 1)) := by
      have hm : Monotone (fun x : ℤ => ((x : ℝ) : EReal)) := fun a b h => by
        simp only [EReal.coe_le_coe_iff]; exact_mod_cast h
      have a := hm.map_min (a := 126) (b := max (-126) (z + 1))
      have b := hm.map_max (a := -126) (b := z + 1)
      rw [a, b]
      push_cast
      rfl
    rw [← c, key]

/-- The search's scale and its reciprocal are the logarithm's. -/
theorem p2_expW (y : EReal) (hy : 0 ≤ y) : p2 (expW y) = Ideal.exp2 (expL y) ∧
    p2 (IntOp.subi 0#32 (expW y)) = Ideal.exp2 (0 - expL y) := by
  by_cases h0 : y = 0
  · subst h0
    have e : Ideal.exp2 (0 : EReal) = T 127 := by
      have := exp2_int 0
      simp only [Int.cast_zero, EReal.coe_zero] at this
      rw [this]; unfold T; norm_num
    have hL : expL 0 = 0 := if_pos rfl
    have hW : expW 0 = 0#32 := if_pos rfl
    rw [hL, hW, sub_zero, e]
    exact ⟨p2_eq _ 127 (by omega) (by omega) rfl, p2_eq _ 127 (by omega) (by omega) rfl⟩
  · obtain ⟨n, hf, hn, hlo, hhi⟩ := field_lad y
    have hL := expL_eq y hy h0 n (by omega) hlo hhi
    have hW : expW y = IntOp.subi (BitVec.ofNat 32 n) 126#32 := by
      unfold expW; rw [if_neg h0, hf]
    have e1 : p2 (expW y) = T (n + 1) := by
      refine p2_eq _ _ (by omega) (by omega) ?_
      rw [hW]
      apply BitVec.eq_of_toNat_eq
      simp only [IntOp.subi, BitVec.toNat_add, BitVec.toNat_sub, BitVec.toNat_ofNat]
      omega
    have e2 : p2 (IntOp.subi 0#32 (expW y)) = T (253 - n) := by
      refine p2_eq _ _ (by omega) (by omega) ?_
      rw [hW]
      apply BitVec.eq_of_toNat_eq
      simp only [IntOp.subi, BitVec.toNat_add, BitVec.toNat_sub, BitVec.toNat_ofNat]
      omega
    rw [e1, e2, hL]
    constructor
    · rw [exp2_int]; unfold T; congr 2; push_cast; ring
    · have : (0 : EReal) - ((((n : ℤ) - 126 : ℤ) : ℝ) : EReal) = (((126 - (n : ℤ) : ℤ) : ℝ) : EReal) := by
        rw [← EReal.coe_zero, ← EReal.coe_sub]; congr 1; push_cast; ring
      rw [this, exp2_int]; unfold T; congr 2; omega

end Cert.Scale

end
-- ==== Proof.Spec.lean ====
module

public import proofs.«01_k».proof.Proof.Ladder
public import Idealize.ShloMosaic.Lib.Pointwise

/-! The layer's mathematics over the extended reals, entry by entry: both programs are read against it. -/

@[expose] public section

noncomputable section

namespace Cert.Spec

open Idealize.ShloMosaic

/-- An array of rank 2 read at two numbers. -/
def at2 {R C : ℕ} (x : (⟨2, ![R, C]⟩ : Shape).Idx → EReal) (a b : ℕ) : EReal :=
  if h : a < R ∧ b < C then x (ix2 ⟨a, h.1⟩ ⟨b, h.2⟩) else 0

theorem at2_eq {R C : ℕ} (x : (⟨2, ![R, C]⟩ : Shape).Idx → EReal) (a : Fin R) (b : Fin C) :
    at2 x a.val b.val = x (ix2 a b) := by
  unfold at2
  rw [dif_pos ⟨a.isLt, b.isLt⟩]

theorem at2_mk {R C : ℕ} (x : (⟨2, ![R, C]⟩ : Shape).Idx → EReal) (a b : ℕ) (ha : a < R) (hb : b < C) :
    at2 x a b = x (ix2 ⟨a, ha⟩ ⟨b, hb⟩) := by
  unfold at2
  rw [dif_pos ⟨ha, hb⟩]

/-- The same for bytes. -/
def atB {R C : ℕ} (x : (⟨2, ![R, C]⟩ : Shape).Idx → BitVec 8) (a b : ℕ) : BitVec 8 :=
  if h : a < R ∧ b < C then x (ix2 ⟨a, h.1⟩ ⟨b, h.2⟩) else 0#8

theorem atB_eq {R C : ℕ} (x : (⟨2, ![R, C]⟩ : Shape).Idx → BitVec 8) (a : Fin R) (b : Fin C) :
    atB x a.val b.val = x (ix2 a b) := by
  unfold atB
  rw [dif_pos ⟨a.isLt, b.isLt⟩]

theorem atB_mk {R C : ℕ} (x : (⟨2, ![R, C]⟩ : Shape).Idx → BitVec 8) (a b : ℕ) (ha : a < R) (hb : b < C) :
    atB x a b = x (ix2 ⟨a, ha⟩ ⟨b, hb⟩) := by
  unfold atB
  rw [dif_pos ⟨ha, hb⟩]

/-! ## The quantiser -/

def ab (v : EReal) : EReal := max v (-v)

theorem ab_nonneg (v : EReal) : 0 ≤ ab v := by
  unfold ab
  rcases le_total 0 v with h | h
  · exact le_max_of_le_left h
  · exact le_max_of_le_right (by rw [EReal.le_neg]; simpa using h)

/-- The greatest magnitude among the first `n` entries. -/
def rowMax (f : ℕ → EReal) (n : ℕ) : EReal := max 0 ((Finset.range n).sup fun c => ab (f c))

theorem rowMax_le {f : ℕ → EReal} {n : ℕ} {z : EReal} : rowMax f n ≤ z ↔ 0 ≤ z ∧ ∀ c < n, ab (f c) ≤ z := by
  unfold rowMax
  rw [max_le_iff, Finset.sup_le_iff]
  simp only [Finset.mem_range]

theorem rowMax_nonneg (f : ℕ → EReal) (n : ℕ) : 0 ≤ rowMax f n := le_max_left _ _

/-- `1 / 448`, and the largest code either way, as float words. -/
def cS : EReal := Ideal.ofBits .f32 991054117#32
def lo448 : EReal := Ideal.ofBits .f32 3286237184#32
def hi448 : EReal := Ideal.ofBits .f32 1138753536#32

theorem cS_pos : 0 < cS := by
  have : cS = (((1 : ℝ) * ((2 ^ 23 + 1198373 : ℕ) : ℝ) * (2 : ℝ) ^ ((118 : ℤ) - 127 - 23) : ℝ) : EReal) := by
    show Ideal.ieee 8 23 991054117#32 = _
    unfold Ideal.ieee
    have h1 : (991054117#32).extractLsb' (8 + 23) 1 = 0#1 := by decide
    have h2 : ((991054117#32).extractLsb' 23 8).toNat = 118 := by decide
    have h3 : ((991054117#32).extractLsb' 0 23).toNat = 1198373 := by decide
    simp only [h1, h2, h3]
    rw [if_neg (by omega), if_neg (by omega), if_neg (by decide)]
    norm_num
  rw [this]
  exact_mod_cast (by positivity)

/-- The exponent, the scale and the reciprocal scale of a row of greatest magnitude `a`, and a value's code. -/
def ex (a : EReal) : EReal := Cert.Scale.expL (a * cS)
def sc (a : EReal) : EReal := Ideal.exp2 (ex a)
def inv (a : EReal) : EReal := Ideal.exp2 (0 - ex a)
def code (a v : EReal) : EReal := min hi448 (max lo448 (v * inv a))

theorem mul_cS_nonneg {a : EReal} (h : 0 ≤ a) : 0 ≤ a * cS := mul_nonneg h cS_pos.le

theorem mul_cS_eq_zero {a : EReal} : a * cS = 0 ↔ a = 0 := by
  rw [mul_eq_zero]
  exact ⟨fun h => h.resolve_right cS_pos.ne', Or.inl⟩

/-! ## The layer -/

def xcode (X : ℕ → ℕ → EReal) (r c : ℕ) : EReal := code (rowMax (X r) 12288) (X r c)

/-- A row of x codes against a column of weights. -/
def proj (X W : ℕ → ℕ → EReal) (r n : ℕ) : EReal := ∑ c ∈ Finset.range 12288, xcode X r c * W c n

def xscale (X : ℕ → ℕ → EReal) (r : ℕ) : EReal := sc (rowMax (X r) 12288)

def swiglu (g u : EReal) : EReal := g * Ideal.div 1 (1 + Ideal.exp (0 - g)) * u

def hval (X G U : ℕ → ℕ → EReal) (w : EReal) (r n : ℕ) : EReal :=
  swiglu (proj X G r n * xscale X r * w) (proj X U r n * xscale X r * w)

def hcode (X G U : ℕ → ℕ → EReal) (w : EReal) (r n : ℕ) : EReal :=
  code (rowMax (hval X G U w r) 1792) (hval X G U w r n)

def hscale (X G U : ℕ → ℕ → EReal) (w : EReal) (r : ℕ) : EReal := sc (rowMax (hval X G U w r) 1792)

/-! ## The weights -/

/-- The e2m1 value of a nibble held in a word. -/
def dec (n : BitVec 32) : EReal :=
  let b0 := IntOp.cmpi CmpIPredicate.ne (IntOp.andi n 1#32) 0#32
  let b1 := IntOp.cmpi CmpIPredicate.ne (IntOp.andi n 2#32) 0#32
  let b2 := IntOp.cmpi CmpIPredicate.ne (IntOp.andi n 4#32) 0#32
  let b3 := IntOp.cmpi CmpIPredicate.ne (IntOp.andi n 8#32) 0#32
  let mag : EReal := Scalar.select b2
    (Scalar.select b1 (Scalar.select b0 (Ideal.ofBits .bf16 16576#16) (Ideal.ofBits .bf16 16512#16))
      (Scalar.select b0 (Ideal.ofBits .bf16 16448#16) (Ideal.ofBits .bf16 16384#16)))
    (Scalar.select b1 (Scalar.select b0 (Ideal.ofBits .bf16 16320#16) 1)
      (Scalar.select b0 (Ideal.ofBits .bf16 16128#16) 0))
  Scalar.select b3 (-mag) mag

/-- The low nibble and the high nibble of a byte, in a word. -/
def loN (b : BitVec 8) : BitVec 32 := IntOp.andi (b.setWidth 32) 15#32
def hiN (b : BitVec 8) : BitVec 32 := IntOp.shrui .host (b.setWidth 32) 4#32

/-- The gate's and the up projection's weights. -/
def wGate (Q : ℕ → ℕ → BitVec 8) (S : ℕ → ℕ → EReal) (c n : ℕ) : EReal := dec (loN (Q c n)) * S (c / 16) (2 * n)
def wUp (Q : ℕ → ℕ → BitVec 8) (S : ℕ → ℕ → EReal) (c n : ℕ) : EReal := dec (hiN (Q c n)) * S (c / 16) (2 * n + 1)

/-! ## The results as functions of the arguments -/

/-- The tokens as rows. -/
def Xof (A : (⟨3, ![4, 2560, 12288]⟩ : Shape).Idx → EReal) (r c : ℕ) : EReal :=
  if h : r < 10240 ∧ c < 12288 then A (ix3 ⟨r / 2560, by omega⟩ ⟨r % 2560, by omega⟩ ⟨c, h.2⟩) else 0

section Results

variable (A0 : (⟨3, ![4, 2560, 12288]⟩ : Shape).Idx → EReal) (A1 : (⟨2, ![12288, 1792]⟩ : Shape).Idx → BitVec 8)
  (A2 : (⟨2, ![768, 3584]⟩ : Shape).Idx → EReal) (A3 : (⟨0, ![]⟩ : Shape).Idx → EReal)

def Gof : ℕ → ℕ → EReal := wGate (atB A1) (at2 A2)
def Uof : ℕ → ℕ → EReal := wUp (atB A1) (at2 A2)

def R0 (i : (⟨2, ![10240, 1792]⟩ : Shape).Idx) : EReal := hcode (Xof A0) (Gof A1 A2) (Uof A1 A2) (A3 ix0) (i 0).val (i 1).val
def R1 (i : (⟨3, ![10, 8, 128]⟩ : Shape).Idx) : EReal :=
  hscale (Xof A0) (Gof A1 A2) (Uof A1 A2) (A3 ix0) ((i 0).val * 1024 + (i 1).val * 128 + (i 2).val)
def R2 (i : (⟨2, ![10240, 12288]⟩ : Shape).Idx) : EReal := xcode (Xof A0) (i 0).val (i 1).val
def R3 (i : (⟨3, ![10, 8, 128]⟩ : Shape).Idx) : EReal := xscale (Xof A0) ((i 0).val * 1024 + (i 1).val * 128 + (i 2).val)

end Results

theorem dec_lo_zero : dec (loN 0#8) = 0 := by
  simp [dec, loN, IntOp.andi, IntOp.cmpi, Scalar.select, BitVec.ofBool]

theorem dec_hi_zero : dec (hiN 0#8) = 0 := by
  simp [dec, hiN, IntOp.shrui, IntOp.andi, IntOp.cmpi, Scalar.select, BitVec.ofBool]

end Cert.Spec

end
-- ==== Proof.NibbleDec.lean ====
module

public import proofs.«01_k».proof.Proof.Nibble
public import proofs.«01_k».proof.Proof.Spec

/-! A nibble rebuilt as an fp8 word is its value over 64. -/

@[expose] public section

noncomputable section

namespace Cert.KernelIdeal.Hand

open Idealize.ShloMosaic Cert.Spec

theorem lo_cases : ∀ b : BitVec 8, ∃ k : Fin 16, lob b = lob (BitVec.ofNat 8 k.val) ∧ loN b = BitVec.ofNat 32 k.val := by
  decide +kernel

theorem hi_cases : ∀ b : BitVec 8, ∃ k : Fin 16, hib b = lob (BitVec.ofNat 8 k.val) ∧ hiN b = BitVec.ofNat 32 k.val := by
  decide +kernel

theorem ofBits_64 : Ideal.ofBits .f32 1115684864#32 = ((64 : ℝ) : EReal) := by
  simp [Ideal.ofBits, Ideal.ieee, -EReal.coe_mul]; norm_num

theorem b6 : Ideal.ofBits .bf16 16576#16 = ((6 : ℝ) : EReal) := by
  simp [Ideal.ofBits, Ideal.ieee, -EReal.coe_mul]; norm_num
theorem b4 : Ideal.ofBits .bf16 16512#16 = ((4 : ℝ) : EReal) := by
  simp [Ideal.ofBits, Ideal.ieee, -EReal.coe_mul]; norm_num
theorem b3 : Ideal.ofBits .bf16 16448#16 = ((3 : ℝ) : EReal) := by
  simp [Ideal.ofBits, Ideal.ieee, -EReal.coe_mul]; norm_num
theorem b2 : Ideal.ofBits .bf16 16384#16 = ((2 : ℝ) : EReal) := by
  simp [Ideal.ofBits, Ideal.ieee, -EReal.coe_mul]; norm_num
theorem b15 : Ideal.ofBits .bf16 16320#16 = ((3 / 2 : ℝ) : EReal) := by
  simp [Ideal.ofBits, Ideal.ieee, -EReal.coe_mul]; norm_num
theorem b05 : Ideal.ofBits .bf16 16128#16 = ((1 / 2 : ℝ) : EReal) := by
  simp [Ideal.ofBits, Ideal.ieee, -EReal.coe_mul]; norm_num

/-- The sixteen values. -/
def tab (k : Fin 16) : ℝ := ![0, 1/2, 1, 3/2, 2, 3, 4, 6, 0, -(1/2), -1, -(3/2), -2, -3, -4, -6] k

theorem e4_tab (k : Fin 16) : Ideal.e4m3fn (lob (BitVec.ofNat 8 k.val)) = ((tab k / 64 : ℝ) : EReal) := by
  fin_cases k <;> (simp [Ideal.e4m3fn, Ideal.ieee, tab, lob, -EReal.coe_mul]; try norm_num)

theorem dec_tab (k : Fin 16) : dec (BitVec.ofNat 32 k.val) = (tab k : EReal) := by
  unfold dec
  rw [b6, b4, b3, b2, b15, b05]
  fin_cases k <;> simp [tab, IntOp.andi, IntOp.cmpi, Scalar.select, BitVec.ofBool]

theorem lo_dec (b : BitVec 8) : Ideal.e4m3fn (lob b) * Ideal.ofBits .f32 1115684864#32 = dec (loN b) := by
  obtain ⟨k, h1, h2⟩ := lo_cases b
  rw [h1, h2, e4_tab, dec_tab, ofBits_64, ← EReal.coe_mul]
  congr 1
  ring

theorem hi_dec (b : BitVec 8) : Ideal.e4m3fn (hib b) * Ideal.ofBits .f32 1115684864#32 = dec (hiN b) := by
  obtain ⟨k, h1, h2⟩ := hi_cases b
  rw [h1, h2, e4_tab, dec_tab, ofBits_64, ← EReal.coe_mul]
  congr 1
  ring

end Cert.KernelIdeal.Hand

end
-- ==== Proof.Reads.lean ====
module

public import proofs.«01_k».proof.Proof.Spec
public import Idealize.ShloMosaic.Lib.Pointwise

/-! Readings shared by the two programs: a row's greatest entry, and the exponent written with a select. -/

@[expose] public section

noncomputable section

namespace Cert.Spec

open Idealize.ShloMosaic

theorem ofBits_neg_inf : Ideal.ofBits .f32 4286578688#32 = ⊥ := by
  simp [Ideal.ofBits, Ideal.ieee, -EReal.coe_mul]

theorem ofBits_two : Ideal.ofBits .f32 1073741824#32 = ((2 : ℝ) : EReal) := by
  simp [Ideal.ofBits, Ideal.ieee, -EReal.coe_mul]; norm_num

theorem ofBits_126 : Ideal.ofBits .f32 1123811328#32 = ((126 : ℝ) : EReal) := by
  simp [Ideal.ofBits, Ideal.ieee, -EReal.coe_mul]; norm_num

theorem ofBits_neg_126 : Ideal.ofBits .f32 3271294976#32 = ((-126 : ℝ) : EReal) := by
  simp [Ideal.ofBits, Ideal.ieee, -EReal.coe_mul]; norm_num

/-- The greatest magnitude of a row, taken as one reduction from minus infinity. -/
theorem fold_ab {n : ℕ} (hn : 0 < n) (f : ℕ → EReal) :
    (Finset.univ : Finset (Fin n)).fold max (Ideal.ofBits .f32 4286578688#32) (fun k => ab (f k.val)) = rowMax f n := by
  refine eq_of_forall_ge_iff fun z => ?_
  rw [Finset.fold_max_le, rowMax_le, ofBits_neg_inf]
  constructor
  · rintro ⟨-, h⟩
    exact ⟨(ab_nonneg _).trans (h ⟨0, hn⟩ (Finset.mem_univ _)), fun c hc => h ⟨c, hc⟩ (Finset.mem_univ _)⟩
  · rintro ⟨-, h⟩
    exact ⟨bot_le, fun k _ => h k.val k.isLt⟩

/-- A row's `multi_reduction <maximumf>` at an index. -/
theorem rowfold {R C : ℕ} {t : Shape} (v : FVec Ideal ⟨2, ![R, C]⟩ .f32) (h : (⟨2, ![R, C]⟩ : Shape).Reduces [1] t)
    (hφ : FKind.Formats .f32) (hacc : 0xFF800000#32 = FKind.maximumf.neutral .f32 hφ) (j : t.Idx) :
    multiReduction .maximumf [1] t v 0xFF800000#32 h hφ hacc j
      = (Finset.univ : Finset (Fin C)).fold max (Ideal.ofBits .f32 4286578688#32)
        (fun k => v (ix2 ⟨(j ⟨0, h.lt_r2_a1_0⟩).val, Shape.coordLt (j ⟨0, h.lt_r2_a1_0⟩) h.size_r2_a1_0⟩ k)) := by
  rw [multiReduction_maximumf_eq_fold]
  exact h.fold_fiber_r2_a1 j _ _ _

end Cert.Spec

end
-- ==== Proof.KernelPay.lean ====
module

public import proofs.«01_k».proof.Proof.BodyFns
public import proofs.«01_k».proof.Proof.NibbleDec
public import proofs.«01_k».proof.Proof.Reads
public import Idealize.ShloMosaic.Lib.Pointwise

/-! The kernel's arithmetic at one index, over the extended reals. -/

@[expose] public section

set_option maxRecDepth 16384

noncomputable section

namespace Cert.KernelIdeal.Hand

open Idealize.ShloMosaic Cert.KernelIdeal Cert.KernelIdeal.Gen Cert.Spec

/-! ## Rectangles and pieces -/

theorem embX (n : Fin 8) (p : Fin 1024) (l : Fin 128) :
    (rX n).emb (ix2 p l) = ix2 p ⟨128 * n.val + l.val, by omega⟩ := by
  funext a; apply Fin.ext
  match a with
  | ⟨0, _⟩ => show 0 + 1 * p.val = p.val; omega
  | ⟨1, _⟩ => show 128 * n.val + 1 * l.val = 128 * n.val + l.val; omega

theorem embH (n : Fin 14) (p : Fin 1024) (l : Fin 128) :
    (rH n).emb (ix2 p l) = ix2 p ⟨128 * n.val + l.val, by omega⟩ := by
  funext a; apply Fin.ext
  match a with
  | ⟨0, _⟩ => show 0 + 1 * p.val = p.val; omega
  | ⟨1, _⟩ => show 128 * n.val + 1 * l.val = 128 * n.val + l.val; omega

theorem embA (n : Fin 14) (p : Fin 1024) (l : Fin 256) :
    (rA n).emb (ix2 p l) = ix2 p ⟨256 * n.val + l.val, by omega⟩ := by
  funext a; apply Fin.ext
  match a with
  | ⟨0, _⟩ => show 0 + 1 * p.val = p.val; omega
  | ⟨1, _⟩ => show 256 * n.val + 1 * l.val = 256 * n.val + l.val; omega

theorem embG (n : Fin 14) (p : Fin 1024) (l : Fin 128) :
    (rG n).emb (ix2 p l) = ix2 p ⟨256 * n.val + l.val, by omega⟩ := by
  funext a; apply Fin.ext
  match a with
  | ⟨0, _⟩ => show 0 + 1 * p.val = p.val; omega
  | ⟨1, _⟩ => show 256 * n.val + 1 * l.val = 256 * n.val + l.val; omega

theorem embU (n : Fin 14) (p : Fin 1024) (l : Fin 128) :
    (rU n).emb (ix2 p l) = ix2 p ⟨256 * n.val + 128 + l.val, by omega⟩ := by
  funext a; apply Fin.ext
  match a with
  | ⟨0, _⟩ => show 0 + 1 * p.val = p.val; omega
  | ⟨1, _⟩ => show 256 * n.val + 128 + 1 * l.val = 256 * n.val + 128 + l.val; omega

theorem embS (n : Fin 14) (p : Fin 64) (l : Fin 256) :
    (rS n).emb (ix2 p l) = ix2 p ⟨256 * n.val + l.val, by omega⟩ := by
  funext a; apply Fin.ext
  match a with
  | ⟨0, _⟩ => show 0 + 1 * p.val = p.val; omega
  | ⟨1, _⟩ => show 256 * n.val + 1 * l.val = 256 * n.val + l.val; omega

theorem embB (p q : Fin 1024) : rB.emb (ix2 p q) = ix2 p q := by
  funext a; apply Fin.ext
  match a with
  | ⟨0, _⟩ => show 0 + 1 * p.val = p.val; omega
  | ⟨1, _⟩ => show 0 + 1 * q.val = q.val; omega

theorem embW (p : Fin 1024) (l : Fin 128) : rW.emb (ix2 p l) = ix2 p l := by
  funext a; apply Fin.ext
  match a with
  | ⟨0, _⟩ => show 0 + 1 * p.val = p.val; omega
  | ⟨1, _⟩ => show 0 + 1 * l.val = l.val; omega

/-- Tiles that agree with one function, read together. -/
theorem canon_tiles {s : Shape} {e : EltTy} {N : ℕ} (ns : List (Fin N)) (r : Fin N → Rect s)
    (f : ∀ n, (r n).shape.Idx → Elt Ideal e) (G : s.Idx → Elt Ideal e) (hf : ∀ n x, f n x = G ((r n).emb x))
    (y : s.Idx) (n : Fin N) (hn : n ∈ ns) (hy : y ∈ (r n).set) :
    View.canon (ns.map fun n => (⟨r n, f n⟩ : View.Piece (Elt Ideal) s e)) y = G y := by
  refine View.canon_apply_of_pieces G _ (fun p hp x => ?_) y ⟨_, List.mem_map.mpr ⟨n, hn, rfl⟩, hy⟩
  obtain ⟨k, -, rfl⟩ := List.mem_map.mp hp
  exact hf k x

theorem memX (p c : Fin 1024) : (ix2 p c : S1024x1024.Idx) ∈ (rX ⟨c.val / 128, by omega⟩).set := by
  rw [Rect.mem_set_unit]
  intro a
  match a with
  | ⟨0, _⟩ => show 0 ≤ p.val ∧ p.val < 0 + 1024; omega
  | ⟨1, _⟩ => show 128 * (c.val / 128) ≤ c.val ∧ c.val < 128 * (c.val / 128) + 128; omega

theorem memH (p : Fin 1024) (c : Fin 1792) : (ix2 p c : S1024x1792.Idx) ∈ (rH ⟨c.val / 128, by omega⟩).set := by
  rw [Rect.mem_set_unit]
  intro a
  match a with
  | ⟨0, _⟩ => show 0 ≤ p.val ∧ p.val < 0 + 1024; omega
  | ⟨1, _⟩ => show 128 * (c.val / 128) ≤ c.val ∧ c.val < 128 * (c.val / 128) + 128; omega

theorem memA (p : Fin 1024) (c : Fin 3584) : (ix2 p c : S1024x3584.Idx) ∈ (rA ⟨c.val / 256, by omega⟩).set := by
  rw [Rect.mem_set_unit]
  intro a
  match a with
  | ⟨0, _⟩ => show 0 ≤ p.val ∧ p.val < 0 + 1024; omega
  | ⟨1, _⟩ => show 256 * (c.val / 256) ≤ c.val ∧ c.val < 256 * (c.val / 256) + 256; omega

theorem mem8 : ∀ n : Fin 8, n ∈ ([7, 6, 5, 4, 3, 2, 1, 0] : List (Fin 8)) := by decide
theorem mem14 : ∀ n : Fin 14, n ∈ ([13, 12, 11, 10, 9, 8, 7, 6, 5, 4, 3, 2, 1, 0] : List (Fin 14)) := by decide

/-! ## The exponent -/

theorem p2F_apply (v : IVec S1024x1 32) (p : Fin 1024) (q : Fin 1) :
    p2F (F := Ideal) v (ix2 p q) = Scale.p2 (v (ix2 p q)) := by
  unfold Scale.p2
  pointwise [p2F]

theorem stepF_apply (y : FVec Ideal S1024x1 .f32) (s w : BitVec 32) (f : IVec S1024x1 32) (p : Fin 1024) (q : Fin 1) :
    stepF y s w f (ix2 p q) = Scale.step (y (ix2 p q)) s w (f (ix2 p q)) := by
  have e : p2F (F := Ideal) (addi f (broadcast S1024x1 w)) (ix2 p q) = Scale.p2 (IntOp.addi (f (ix2 p q)) w) :=
    p2F_apply _ _ _
  unfold Scale.step
  rw [← e]
  clear e
  pointwise [stepF]

theorem fieldF_apply (y : FVec Ideal S1024x1 .f32) (p : Fin 1024) (q : Fin 1) :
    fieldF y (ix2 p q) = Scale.field (y (ix2 p q)) := by
  unfold fieldF Scale.field
  simp only [stepF_apply]
  rfl

theorem expF_apply (y : FVec Ideal S1024x1 .f32) (p : Fin 1024) (q : Fin 1) :
    expF y (ix2 p q) = Scale.expW (y (ix2 p q)) := by
  unfold Scale.expW
  rw [← fieldF_apply y p q]
  pointwise [expF]

theorem rowsF_apply (e : IVec S1024x1 32) (p : Fin 1024) (l : Fin 128) :
    rowsF (F := Ideal) e (ix2 p l) = Scale.p2 (e (ix2 p 0)) := by
  rw [← p2F_apply]
  pointwise [rowsF]

theorem negF_apply (e : IVec S1024x1 32) (p : Fin 1024) (q : Fin 1) :
    negF e (ix2 p q) = IntOp.subi 0#32 (e (ix2 p q)) := rfl

theorem pay166_apply (v : FVec Ideal S1024x128 .f32) (p : Fin 1024) (q : Fin 1) :
    k0_pay166 (F := Ideal) v (ix2 p q)
      = Finset.fold max (Ideal.ofBits .f32 4286578688#32) (fun x => v (ix2 p x)) Finset.univ * cS := by
  unfold cS
  pointwise [k0_pay166]

/-- The scale a row of lane maxima `v` gets, its maximum being `M`. -/
theorem rows_exp (v : FVec Ideal S1024x128 .f32) (p : Fin 1024) (l : Fin 128) (M : EReal) (hM : 0 ≤ M)
    (h : ∀ z, (∀ x, v (ix2 p x) ≤ z) ↔ M ≤ z) :
    rowsF (F := Ideal) (expF (k0_pay166 (F := Ideal) v)) (ix2 p l) = sc M ∧
      rowsF (F := Ideal) (negF (expF (k0_pay166 (F := Ideal) v))) (ix2 p l) = Spec.inv M := by
  have e : k0_pay166 (F := Ideal) v (ix2 p 0) = M * cS := by
    rw [pay166_apply]
    congr 1
    refine eq_of_forall_ge_iff fun z => ?_
    rw [Finset.fold_max_le, ofBits_neg_inf, ← h]
    exact ⟨fun h x => h.2 x (Finset.mem_univ _), fun h => ⟨bot_le, fun x _ => h x⟩⟩
  have := Scale.p2_expW (M * cS) (mul_cS_nonneg hM)
  rw [rowsF_apply, rowsF_apply, negF_apply, expF_apply, e]
  exact this

/-! ## The codes -/

theorem pay7_apply (inv : FVec Ideal S1024x128 .f32) (x : FVec Ideal S1024x128 .bf16) (p : Fin 1024) (l : Fin 128) :
    k0_pay7 (F := Ideal) inv x (ix2 p l) = min hi448 (max lo448 (x (ix2 p l) * inv (ix2 p l))) := by
  unfold hi448 lo448
  pointwise [k0_pay7, k0_pay6]

theorem pay8_apply (inv : FVec Ideal S1024x128 .f32) (x : FVec Ideal S1024x128 .bf16) (p : Fin 1024) (l : Fin 128) :
    k0_pay8 (F := Ideal) inv x (ix2 p l) = min hi448 (max lo448 (x (ix2 p l) * inv (ix2 p l))) := by
  rw [← pay7_apply]
  pointwise [k0_pay8]

theorem pay147_apply (inv h : FVec Ideal S1024x128 .f32) (p : Fin 1024) (l : Fin 128) :
    k0_pay147 (F := Ideal) inv h (ix2 p l) = min hi448 (max lo448 (h (ix2 p l) * inv (ix2 p l))) := by
  unfold hi448 lo448
  pointwise [k0_pay147]

theorem pay87_apply (w : EReal) (i a b : FVec Ideal S1024x128 .f32) (p : Fin 1024) (l : Fin 128) :
    k0_pay87 (F := Ideal) w i a b (ix2 p l)
      = swiglu (a (ix2 p l) * i (ix2 p l) * w) (b (ix2 p l) * i (ix2 p l) * w) := by
  unfold swiglu
  pointwise [k0_pay87]

theorem pay88_apply (w : EReal) (i a b : FVec Ideal S1024x128 .f32) (p : Fin 1024) (l : Fin 128) :
    k0_pay88 (F := Ideal) w i a b (ix2 p l)
      = swiglu (a (ix2 p l) * i (ix2 p l) * w) (b (ix2 p l) * i (ix2 p l) * w) := by
  rw [← pay87_apply]
  pointwise [k0_pay88]

/-! ## The scales' layout -/

theorem pay165_apply (v : FVec Ideal S1024x128 .f32) (a : Fin 1) (p : Fin 8) (q : Fin 128) :
    k0_pay165 (F := Ideal) v (ix3 a p q) = v (ix2 ⟨128 * p.val + q.val, by omega⟩ 0) := by
  pointwise [k0_pay165]
  split_ifs <;> exact congrArg v (congrArg₂ ix2 (Fin.ext (by simp only []; omega)) (Fin.ext (by simp only [Fin.val_zero]; omega)))

/-! ## The accumulator -/

/-- A column's weight in row `x`, from its byte and its scale. -/
def wcell (q : BitVec 8) (s : EReal) (c : ℕ) : EReal :=
  (if c % 256 < 128 then dec (loN q) else dec (hiN q)) * s

theorem pay29_apply (k : BitVec 32) (hi lo : FVec Ideal S1024x128 .bf16) (s : FVec Ideal S64x256 .fp8e4m3)
    (xb : FVec Ideal S1024x1024 .bf16) (a : FVec Ideal S1024x256 .f32) (p : Fin 1024) (c : Fin 256) :
    k0_pay29 (F := Ideal) k hi (k0_pay26 (F := Ideal) s) lo (k0_pay28 (F := Ideal) s) xb a (ix2 p c)
      = (∑ x : Fin 1024, xb (ix2 p x) * if h : c.val < 128 then
          lo (ix2 x ⟨c.val, h⟩) * (s (ix2 ⟨x.val / 16, by omega⟩ c) * Ideal.ofBits .f32 1115684864#32)
          else hi (ix2 x ⟨c.val - 128, by omega⟩) * (s (ix2 ⟨x.val / 16, by omega⟩ c) * Ideal.ofBits .f32 1115684864#32))
        + Scalar.select (Scalar.cmpi .eq k 0#32) 0 (a (ix2 p c)) := by
  pointwise [k0_pay29, k0_pay26, k0_pay28]
  congr 1
  refine Finset.sum_congr rfl fun x _ => ?_
  congr 1
  by_cases h : c.val < 128
  · rw [dif_pos h, dif_pos h]
  · have e : ∀ h', (⟨128 + (c.val - 128), h'⟩ : Fin 256) = c := fun h' => Fin.ext (by show 128 + (c.val - 128) = c.val; omega)
    rw [dif_neg h, dif_neg h]
    simp only [e]

theorem pay2_apply (i : grid0.Coords) (v : FVec Ideal S1024x1024 .bf16) (a : FVec Ideal S1024x128 .f32) (p : Fin 1024)
    (l : Fin 128) (z : EReal) : k0_pay2 (F := Ideal) i v a (ix2 p l) ≤ z ↔
      (Scalar.select (Scalar.cmpi .eq (BitVec.ofNat 32 (i 1).val) 0#32) 0 (a (ix2 p l)) : EReal) ≤ z ∧
        ∀ j : Fin 8, ab (v (ix2 p ⟨128 * j.val + l.val, by omega⟩)) ≤ z := by
  pointwise [k0_pay2]
  simp only [max_le_iff]
  constructor
  · rintro ⟨⟨⟨⟨⟨⟨⟨⟨h0, h1⟩, h2⟩, h3⟩, h4⟩, h5⟩, h6⟩, h7⟩, h⟩
    refine ⟨h, fun j => ?_⟩
    obtain ⟨j, hj⟩ := j
    have : ∀ (b : Fin 1024) (hb : 128 * j + l.val = b.val), FloatOps.absf (v (ix2 p b)) ≤ z →
        ab (v (ix2 p ⟨128 * j + l.val, by omega⟩)) ≤ z := fun b hb hz => by
      rw [show (⟨128 * j + l.val, by omega⟩ : Fin 1024) = b from Fin.ext hb]
      exact hz
    interval_cases j
    · exact this _ (by simp) h0
    · exact this _ (by simp) h1
    · exact this _ (by simp) h2
    · exact this _ (by simp) h3
    · exact this _ (by simp) h4
    · exact this _ (by simp) h5
    · exact this _ (by simp) h6
    · exact this _ (by simp) h7
  · rintro ⟨h, hj⟩
    have : ∀ (j : Fin 8) (b : Fin 1024) (hb : b.val = 128 * j.val + l.val), FloatOps.absf (v (ix2 p b)) ≤ z :=
      fun j b hb => by
        have := hj j
        rw [show b = (⟨128 * j.val + l.val, by omega⟩ : Fin 1024) from Fin.ext hb]
        exact this
    exact ⟨⟨⟨⟨⟨⟨⟨⟨this 0 _ (by simp), this 1 _ (by simp)⟩, this 2 _ (by simp)⟩, this 3 _ (by simp)⟩,
      this 4 _ (by simp)⟩, this 5 _ (by simp)⟩, this 6 _ (by simp)⟩, this 7 _ (by simp)⟩, h⟩

end Cert.KernelIdeal.Hand

end
-- ==== Proof.KernelOut.lean ====
module

public import proofs.«01_k».proof.Proof.KernelPay

/-! What one grid point of the kernel leaves, at an index, over the extended reals. -/

@[expose] public section

set_option maxRecDepth 16384

noncomputable section

namespace Cert.KernelIdeal.Hand

open Idealize.ShloMosaic Cert.KernelIdeal Cert.KernelIdeal.Gen Cert.Spec

/-- A value's code, the reciprocal scale given. -/
def clip (i v : EReal) : EReal := min hi448 (max lo448 (v * i))

theorem idx2 {R C : ℕ} (x : (⟨2, ![R, C]⟩ : Shape).Idx) : ∃ (p : Fin R) (l : Fin C), x = ix2 p l := by
  refine ⟨x 0, x 1, funext fun a => ?_⟩
  match a with
  | ⟨0, _⟩ => rfl
  | ⟨1, _⟩ => rfl

theorem ldW (y : Vec Ideal S1024x128 .f32) (p : Fin 1024) (l : Fin 128) : View.ld y rW (ix2 p l) = y (ix2 p l) := by
  show y (rW.emb (ix2 p l)) = _
  rw [embW]

theorem ldB (y : Vec Ideal S1024x1024 .bf16) (p l : Fin 1024) : View.ld y rB (ix2 p l) = y (ix2 p l) := by
  show y (rB.emb (ix2 p l)) = _
  rw [embB]

theorem canonXc (x4 : Vec Ideal S1024x1024 .bf16) (y16 : Vec Ideal S1024x128 .f32) (I : Fin 1024 → EReal)
    (hI : ∀ p l, y16 (ix2 p l) = I p) (p c : Fin 1024) :
    View.canon (LXc (F := Ideal) (View.ld y16 rW) x4) (ix2 p c) = clip (I p) (x4 (ix2 p c)) := by
  refine canon_tiles (e := .fp8e4m3) [7, 6, 5, 4, 3, 2, 1, 0] rX
    (fun n => (k0_pay7 (F := Ideal) (View.ld y16 rW) (View.ld x4 (rX n)))) (fun y => clip (I (y 0)) (x4 y))
    (fun n x => ?_) (ix2 p c) _ (mem8 _) (memX p c)
  obtain ⟨q, l, rfl⟩ := idx2 (R := 1024) (C := 128) x
  rw [pay7_apply, ldW, hI, embX]
  show min hi448 (max lo448 (x4 ((rX n).emb (ix2 q l)) * I q)) = _
  rw [embX]
  rfl

theorem canonXb (x4 : Vec Ideal S1024x1024 .bf16) (y16 : Vec Ideal S1024x128 .f32) (I : Fin 1024 → EReal)
    (hI : ∀ p l, y16 (ix2 p l) = I p) (p c : Fin 1024) :
    View.canon (LXb (F := Ideal) (View.ld y16 rW) x4) (ix2 p c) = clip (I p) (x4 (ix2 p c)) := by
  refine canon_tiles (e := .bf16) [7, 6, 5, 4, 3, 2, 1, 0] rX
    (fun n => (k0_pay8 (F := Ideal) (View.ld y16 rW) (View.ld x4 (rX n)))) (fun y => clip (I (y 0)) (x4 y))
    (fun n x => ?_) (ix2 p c) _ (mem8 _) (memX p c)
  obtain ⟨q, l, rfl⟩ := idx2 (R := 1024) (C := 128) x
  rw [pay8_apply, ldW, hI, embX]
  show min hi448 (max lo448 (x4 ((rX n).emb (ix2 q l)) * I q)) = _
  rw [embX]
  rfl

theorem sel0 (k : ℕ) (hk : k < 12) (a : EReal) :
    (Scalar.select (Scalar.cmpi .eq (BitVec.ofNat 32 k) 0#32) 0 a : EReal) = if k = 0 then 0 else a := by
  interval_cases k <;> rfl

/-- The accumulator after the point. -/
def accV (k : ℕ) (x4 : Vec Ideal S1024x1024 .bf16) (x5 : Vec Ideal S1024x1792 .i8) (x6 : Vec Ideal S64x3584 .fp8e4m3)
    (I : Fin 1024 → EReal) (y11 : Vec Ideal S1024x3584 .f32) (p : Fin 1024) (c : Fin 3584) : EReal :=
  (∑ x : Fin 1024, clip (I p) (x4 (ix2 p x))
      * wcell (x5 (ix2 x ⟨c.val / 256 * 128 + c.val % 128, by omega⟩)) (x6 (ix2 ⟨x.val / 16, by omega⟩ c)) c.val)
    + if k = 0 then 0 else y11 (ix2 p c)

theorem mul64 (a s d t : EReal) (h : a * t = d) : a * (s * t) = d * s := by
  rw [← h, mul_comm s t, mul_assoc]

theorem wlo (x5 : Vec Ideal S1024x1792 .i8) (n : Fin 14) (x : Fin 1024) (l : Fin 256) (s : EReal) (hl : l.val < 128) :
    k0_pay27 (F := Ideal) (View.ld x5 (rH n)) (ix2 x ⟨l.val, hl⟩) * (s * Ideal.ofBits .f32 1115684864#32)
      = wcell (x5 (ix2 x ⟨(256 * n.val + l.val) / 256 * 128 + (256 * n.val + l.val) % 128, by omega⟩)) s
        (256 * n.val + l.val) := by
  unfold wcell
  rw [pay27_apply, if_pos (by omega)]
  refine (mul64 _ _ _ _ (lo_dec _)).trans ?_
  have e : View.ld x5 (rH n) (ix2 x ⟨l.val, hl⟩)
      = x5 (ix2 x ⟨(256 * n.val + l.val) / 256 * 128 + (256 * n.val + l.val) % 128, by omega⟩) := by
    show x5 ((rH n).emb _) = _
    rw [embH]
    exact congrArg x5 (congrArg₂ ix2 rfl (Fin.ext (by
      show 128 * n.val + l.val = (256 * n.val + l.val) / 256 * 128 + (256 * n.val + l.val) % 128; omega)))
  rw [e]

theorem whi (x5 : Vec Ideal S1024x1792 .i8) (n : Fin 14) (x : Fin 1024) (l : Fin 256) (s : EReal) (hl : ¬l.val < 128) :
    k0_pay25 (F := Ideal) (View.ld x5 (rH n)) (ix2 x ⟨l.val - 128, by omega⟩) * (s * Ideal.ofBits .f32 1115684864#32)
      = wcell (x5 (ix2 x ⟨(256 * n.val + l.val) / 256 * 128 + (256 * n.val + l.val) % 128, by omega⟩)) s
        (256 * n.val + l.val) := by
  unfold wcell
  rw [pay25_apply, if_neg (by omega)]
  refine (mul64 _ _ _ _ (hi_dec _)).trans ?_
  have e : View.ld x5 (rH n) (ix2 x ⟨l.val - 128, by omega⟩)
      = x5 (ix2 x ⟨(256 * n.val + l.val) / 256 * 128 + (256 * n.val + l.val) % 128, by omega⟩) := by
    show x5 ((rH n).emb _) = _
    rw [embH]
    exact congrArg x5 (congrArg₂ ix2 rfl (Fin.ext (by
      show 128 * n.val + (l.val - 128) = (256 * n.val + l.val) / 256 * 128 + (256 * n.val + l.val) % 128; omega)))
  rw [e]

theorem accCell (i : grid0.Coords) (x4 : Vec Ideal S1024x1024 .bf16) (x5 : Vec Ideal S1024x1792 .i8)
    (x6 : Vec Ideal S64x3584 .fp8e4m3) (I : Fin 1024 → EReal) (xb : Vec Ideal S1024x1024 .bf16)
    (y11 : Vec Ideal S1024x3584 .f32) (hx : ∀ p x, xb (ix2 p x) = clip (I p) (x4 (ix2 p x))) (n : Fin 14)
    (q : Fin 1024) (l : Fin 256) :
    accF (F := Ideal) i (View.ld x5 (rH n)) (View.ld x6 (rS n)) xb (View.ld y11 (rA n)) (ix2 q l)
      = accV (i 1).val x4 x5 x6 I y11 q ⟨256 * n.val + l.val, by omega⟩ := by
  unfold accF accV
  rw [pay29_apply, sel0 _ (i 1).isLt]
  have e3 : View.ld y11 (rA n) (ix2 q l) = y11 (ix2 q ⟨256 * n.val + l.val, by omega⟩) := by
    show y11 ((rA n).emb _) = _
    rw [embA]
  have e2 : ∀ x : Fin 1024, View.ld x6 (rS n) (ix2 ⟨x.val / 16, by omega⟩ l)
      = x6 (ix2 ⟨x.val / 16, by omega⟩ ⟨256 * n.val + l.val, by omega⟩) := fun x => by
    show x6 ((rS n).emb _) = _
    rw [embS]
  rw [e3]
  refine congrArg₂ (· + ·) (Finset.sum_congr rfl fun x _ => ?_) rfl
  rw [hx, e2]
  refine congrArg₂ (· * ·) rfl ?_
  by_cases hl : l.val < 128
  · rw [dif_pos hl]
    exact wlo x5 n x l _ hl
  · rw [dif_neg hl]
    exact whi x5 n x l _ hl

theorem canonAcc (i : grid0.Coords) (x4 : Vec Ideal S1024x1024 .bf16) (x5 : Vec Ideal S1024x1792 .i8)
    (x6 : Vec Ideal S64x3584 .fp8e4m3) (y16 : Vec Ideal S1024x128 .f32) (I : Fin 1024 → EReal)
    (y11 : Vec Ideal S1024x3584 .f32) (hI : ∀ p l, y16 (ix2 p l) = I p) (p : Fin 1024) (c : Fin 3584) :
    View.canon (LAcc (F := Ideal) i x4 x5 x6 y16 y11) (ix2 p c) = accV (i 1).val x4 x5 x6 I y11 p c := by
  have hx : ∀ p x, canonRd (LXb (F := Ideal) (View.ld y16 rW) x4) rB.toLoadRect (ix2 p x) = clip (I p) (x4 (ix2 p x)) :=
    fun p x => by
      rw [← canonXb x4 y16 I hI p x]
      show View.canon _ (rB.emb (ix2 p x)) = _
      rw [embB]
  unfold LAcc LA
  generalize canonRd (LXb (F := Ideal) (View.ld y16 rW) x4) rB.toLoadRect = xb at hx
  refine canon_tiles (e := .f32) [13, 12, 11, 10, 9, 8, 7, 6, 5, 4, 3, 2, 1, 0] rA
    (fun n => accF (F := Ideal) i (View.ld x5 (rH n)) (View.ld x6 (rS n)) xb (View.ld y11 (rA n)))
    (fun y => accV (i 1).val x4 x5 x6 I y11 (y 0) (y 1)) (fun n x => ?_) (ix2 p c) _ (mem14 _) (memA p c)
  obtain ⟨q, l, rfl⟩ := idx2 (R := 1024) (C := 256) x
  rw [embA, accCell i x4 x5 x6 I xb y11 hx]
  rfl

/-! ## h -/

/-- h from the accumulator's rows `A`, the scales `S` and the global scale `w`. -/
def hN (A : Fin 1024 → ℕ → EReal) (S : Fin 1024 → EReal) (w : EReal) (p : Fin 1024) (j : ℕ) : EReal :=
  swiglu (A p (256 * (j / 128) + j % 128) * S p * w) (A p (256 * (j / 128) + 128 + j % 128) * S p * w)

section H

variable (L : List (View.Piece (Elt Ideal) S1024x3584 .f32)) (A : Fin 1024 → ℕ → EReal) (S : Fin 1024 → EReal)
  (w : EReal) (y15 : Vec Ideal S1024x128 .f32)

theorem pay88_at (hA : ∀ p (c : Fin 3584), View.canon L (ix2 p c) = A p c.val) (hS : ∀ p l, y15 (ix2 p l) = S p)
    (n : Fin 14) (p : Fin 1024) (l : Fin 128) :
    k0_pay88 (F := Ideal) w (View.ld y15 rW) (canonRd L (rG n).toLoadRect) (canonRd L (rU n).toLoadRect) (ix2 p l)
      = hN A S w p (128 * n.val + l.val) := by
  have e1 : canonRd L (rG n).toLoadRect (ix2 p l) = A p (256 * n.val + l.val) := by
    show View.canon L ((rG n).emb (ix2 p l)) = _
    rw [embG, hA]
  have e2 : canonRd L (rU n).toLoadRect (ix2 p l) = A p (256 * n.val + 128 + l.val) := by
    show View.canon L ((rU n).emb (ix2 p l)) = _
    rw [embU, hA]
  rw [pay88_apply, ldW, hS, e1, e2]
  unfold hN
  rw [show (128 * n.val + l.val) / 128 = n.val by omega, show (128 * n.val + l.val) % 128 = l.val by omega]

theorem pay87_at (hA : ∀ p (c : Fin 3584), View.canon L (ix2 p c) = A p c.val) (hS : ∀ p l, y15 (ix2 p l) = S p)
    (n : Fin 14) (p : Fin 1024) (l : Fin 128) :
    k0_pay87 (F := Ideal) w (View.ld y15 rW) (canonRd L (rG n).toLoadRect) (canonRd L (rU n).toLoadRect) (ix2 p l)
      = hN A S w p (128 * n.val + l.val) := by
  rw [← pay88_at L A S w y15 hA hS, pay87_apply, pay88_apply]

theorem canonH (hA : ∀ p (c : Fin 3584), View.canon L (ix2 p c) = A p c.val) (hS : ∀ p l, y15 (ix2 p l) = S p)
    (p : Fin 1024) (c : Fin 1792) :
    View.canon (LH (F := Ideal) w (View.ld y15 rW) (canonRd L)) (ix2 p c) = hN A S w p c.val := by
  refine canon_tiles (e := .f32) [13, 12, 11, 10, 9, 8, 7, 6, 5, 4, 3, 2, 1, 0] rH
    (fun n => (k0_pay88 (F := Ideal) w (View.ld y15 rW) (canonRd L (rG n).toLoadRect)
      (canonRd L (rU n).toLoadRect))) (fun y => hN A S w (y 0) (y 1).val)
    (fun n x => ?_) (ix2 p c) _ (mem14 _) (memH p c)
  obtain ⟨q, l, rfl⟩ := idx2 (R := 1024) (C := 128) x
  rw [pay88_at L A S w y15 hA hS, embH]
  rfl

theorem foldl_max (g : Fin 14 → FVec Ideal S1024x128 .f32) (z : EReal) (j : S1024x128.Idx) :
    ∀ (ns : List (Fin 14)) (v : FVec Ideal S1024x128 .f32),
      ns.foldl (fun v n => maximumf v (absf (g n))) v j ≤ z ↔ v j ≤ z ∧ ∀ n ∈ ns, ab (g n j) ≤ z
  | [], v => by simp
  | n :: ns, v => by
    rw [List.foldl_cons, foldl_max g z j ns]
    have e : (maximumf v (absf (g n)) j ≤ z) ↔ v j ≤ z ∧ ab (g n j) ≤ z := by
      show max (v j) (ab (g n j)) ≤ z ↔ _
      rw [max_le_iff]
    rw [e, List.forall_mem_cons, and_assoc]

theorem hmax_le (hA : ∀ p (c : Fin 3584), View.canon L (ix2 p c) = A p c.val) (hS : ∀ p l, y15 (ix2 p l) = S p)
    (p : Fin 1024) (z : EReal) : (∀ l, hmaxF (F := Ideal) w (View.ld y15 rW) (canonRd L) (ix2 p l) ≤ z) ↔
      rowMax (hN A S w p) 1792 ≤ z := by
  rw [rowMax_le]
  have e : ∀ l : Fin 128, hmaxF (F := Ideal) w (View.ld y15 rW) (canonRd L) (ix2 p l) ≤ z ↔
      0 ≤ z ∧ ∀ n : Fin 14, ab (hN A S w p (128 * n.val + l.val)) ≤ z := fun l => by
    unfold hmaxF
    rw [foldl_max (fun n => k0_pay87 (F := Ideal) w (View.ld y15 rW) (canonRd L (rG n).toLoadRect)
      (canonRd L (rU n).toLoadRect))]
    refine and_congr ?_ ?_
    · show Ideal.ofBits .f32 0#32 ≤ z ↔ _
      rw [Ideal.ofBits_zero_f32]
    · constructor
      · intro h n
        rw [← pay87_at L A S w y15 hA hS]
        exact h n (by revert n; decide)
      · intro h n _
        rw [pay87_at L A S w y15 hA hS]
        exact h n
  constructor
  · intro h
    refine ⟨((e 0).mp (h 0)).1, fun c hc => ?_⟩
    have := ((e ⟨c % 128, by omega⟩).mp (h _)).2 ⟨c / 128, by omega⟩
    rwa [show 128 * (c / 128) + c % 128 = c by omega] at this
  · rintro ⟨h0, h⟩ l
    exact (e l).mpr ⟨h0, fun n => h _ (by omega)⟩

theorem hexp (hA : ∀ p (c : Fin 3584), View.canon L (ix2 p c) = A p c.val) (hS : ∀ p l, y15 (ix2 p l) = S p)
    (p : Fin 1024) (l : Fin 128) :
    rowsF (F := Ideal) (hexpF (F := Ideal) w (View.ld y15 rW) (canonRd L)) (ix2 p l) = sc (rowMax (hN A S w p) 1792) ∧
      rowsF (F := Ideal) (negF (hexpF (F := Ideal) w (View.ld y15 rW) (canonRd L))) (ix2 p l)
        = Spec.inv (rowMax (hN A S w p) 1792) :=
  rows_exp _ p l _ (rowMax_nonneg _ _) (fun z => hmax_le L A S w y15 hA hS p z)

theorem canonHc (hA : ∀ p (c : Fin 3584), View.canon L (ix2 p c) = A p c.val) (hS : ∀ p l, y15 (ix2 p l) = S p)
    (p : Fin 1024) (c : Fin 1792) :
    View.canon (LHc (F := Ideal) (hexpF (F := Ideal) w (View.ld y15 rW) (canonRd L))
      (canonRd (LH (F := Ideal) w (View.ld y15 rW) (canonRd L)))) (ix2 p c)
      = code (rowMax (hN A S w p) 1792) (hN A S w p c.val) := by
  refine canon_tiles (e := .fp8e4m3) [13, 12, 11, 10, 9, 8, 7, 6, 5, 4, 3, 2, 1, 0] rH
    (fun n => (k0_pay147 (F := Ideal)
      (rowsF (negF (hexpF (F := Ideal) w (View.ld y15 rW) (canonRd L))))
      (canonRd (LH (F := Ideal) w (View.ld y15 rW) (canonRd L)) (rH n).toLoadRect))) (fun y => code (rowMax (hN A S w (y 0)) 1792) (hN A S w (y 0) (y 1).val))
    (fun n x => ?_) (ix2 p c) _ (mem14 _) (memH p c)
  obtain ⟨q, l, rfl⟩ := idx2 (R := 1024) (C := 128) x
  have e : canonRd (LH (F := Ideal) w (View.ld y15 rW) (canonRd L)) (rH n).toLoadRect (ix2 q l)
      = hN A S w q (128 * n.val + l.val) := by
    show View.canon _ ((rH n).emb (ix2 q l)) = _
    rw [embH, canonH L A S w y15 hA hS]
  rw [pay147_apply, (hexp L A S w y15 hA hS q l).2, e, embH]
  rfl

end H

/-! ## The next row tile's scales -/

theorem max_le (i : grid0.Coords) (x3 : Vec Ideal S1024x1024 .bf16) (y14 : Vec Ideal S1024x128 .f32) (p : Fin 1024)
    (l : Fin 128) (z : EReal) : k0_pay2 (F := Ideal) i (View.ld x3 rB) (View.ld y14 rW) (ix2 p l) ≤ z ↔
      (if (i 1).val = 0 then 0 else y14 (ix2 p l)) ≤ z ∧
        ∀ j : Fin 8, ab (x3 (ix2 p ⟨128 * j.val + l.val, by omega⟩)) ≤ z := by
  rw [pay2_apply, sel0 _ (i 1).isLt, ldW]
  exact and_congr Iff.rfl (forall_congr' fun j => by rw [ldB])

theorem canonMax (P : FVec Ideal S1024x128 .f32) :
    canonRd [(⟨rW, P⟩ : View.Piece (Elt Ideal) S1024x128 .f32)] rW.toLoadRect = P := by
  funext y
  obtain ⟨p, l, rfl⟩ := idx2 (R := 1024) (C := 128) y
  show View.canon _ (rW.emb (ix2 p l)) = _
  have := View.canon_cons_emb (Val := Elt Ideal) rW P ([] : List (View.Piece (Elt Ideal) S1024x128 .f32)) (ix2 p l)
  exact this

theorem nextScale (i : grid0.Coords) (x3 : Vec Ideal S1024x1024 .bf16) (y14 : Vec Ideal S1024x128 .f32) (p : Fin 1024)
    (l : Fin 128) (M : EReal) (hM : 0 ≤ M)
    (h : ∀ z, (∀ x, k0_pay2 (F := Ideal) i (View.ld x3 rB) (View.ld y14 rW) (ix2 p x) ≤ z) ↔ M ≤ z) :
    shapeCast S1024x128 (rowsF (F := Ideal) (xexpAt (F := Ideal) i x3 y14)) shapeCasts_S1024x128_S1024x128 (ix2 p l) = sc M ∧
      shapeCast S1024x128 (rowsF (F := Ideal) (negF (xexpAt (F := Ideal) i x3 y14))) shapeCasts_S1024x128_S1024x128 (ix2 p l)
        = Spec.inv M := by
  unfold xexpAt
  rw [canonMax, shapeCast_self, shapeCast_self]
  exact rows_exp _ p l M hM h

end Cert.KernelIdeal.Hand

end
-- ==== Proof.KernelStep.lean ====
module

public import proofs.«01_k».proof.Proof.KernelOut

/-! The scratch between grid points: what it holds before each, and how a point carries it on. -/

@[expose] public section

set_option maxRecDepth 16384

noncomputable section

namespace Cert.KernelIdeal.Hand

open Idealize.ShloMosaic Cert.KernelIdeal Cert.KernelIdeal.Gen Cert.Spec

variable (X G U : ℕ → ℕ → EReal) (w : EReal)

/-- The weight the accumulator's column `c` multiplies in row `K`. -/
def Wc (K c : ℕ) : EReal :=
  if c % 256 < 128 then G K (c / 256 * 128 + c % 128) else U K (c / 256 * 128 + c % 128)

/-- A row's accumulator after the first `n` columns of x. -/
def accN (r n c : ℕ) : EReal := ∑ K ∈ Finset.range n, xcode X r K * Wc G U K c

/-- What the scratch holds before the point at row tile `i`, column block `k`. -/
structure Inv (i k : ℕ) (y11 : Vec Ideal S1024x3584 .f32) (y14 y15 y16 : Vec Ideal S1024x128 .f32) : Prop where
  max : i < 10 → 0 < k → ∀ (p : Fin 1024) (l : Fin 128) (z : EReal), y14 (ix2 p l) ≤ z ↔
    0 ≤ z ∧ ∀ c < 1024 * k, c % 128 = l.val → ab (X (1024 * i + p.val) c) ≤ z
  sc : 0 < i → i ≤ 10 → ∀ (p : Fin 1024) (l : Fin 128), y15 (ix2 p l) = xscale X (1024 * (i - 1) + p.val)
  inv : 0 < i → i ≤ 10 → ∀ (p : Fin 1024) (l : Fin 128),
    y16 (ix2 p l) = Spec.inv (rowMax (X (1024 * (i - 1) + p.val)) 12288)
  acc : 0 < i → 0 < k → ∀ (p : Fin 1024) (c : Fin 3584),
    y11 (ix2 p c) = accN X G U (1024 * (i - 1) + p.val) (1024 * k) c.val

/-- What the point finds in the input blocks. -/
structure Blk (i k : ℕ) (x2 : Vec Ideal S1 .f32) (x3 x4 : Vec Ideal S1024x1024 .bf16) (x5 : Vec Ideal S1024x1792 .i8)
    (x6 : Vec Ideal S64x3584 .fp8e4m3) : Prop where
  wg : wgF (F := Ideal) x2 = w
  xa : i < 10 → ∀ p q : Fin 1024, x3 (ix2 p q) = X (1024 * i + p.val) (1024 * k + q.val)
  xq : 0 < i → ∀ p q : Fin 1024, x4 (ix2 p q) = X (1024 * (i - 1) + p.val) (1024 * k + q.val)
  wt : 0 < i → ∀ (x : Fin 1024) (c : Fin 3584),
    wcell (x5 (ix2 x ⟨c.val / 256 * 128 + c.val % 128, by omega⟩)) (x6 (ix2 ⟨x.val / 16, by omega⟩ c)) c.val
      = Wc G U (1024 * k + x.val) c.val

theorem le10 (i : grid0.Coords) : (i 0).val ≤ 10 := Nat.le_of_lt_succ (i 0).isLt

theorem cond1_iff : ∀ i : grid0.Coords, k0_cond1 i = 1#1 ↔ 0 < (i 0).val := by decide +kernel
theorem cond2_iff : ∀ i : grid0.Coords, k0_cond2 i = 1#1 ↔ 0 < (i 0).val ∧ (i 1).val = 11 := by decide +kernel
theorem cond3_iff : ∀ i : grid0.Coords, cond3 i ↔ (i 0).val < 10 := by decide +kernel
theorem cond4_iff : ∀ i : grid0.Coords, cond4 i ↔ (i 1).val = 11 := by decide +kernel

section Step

variable {X G U w}
variable {i : grid0.Coords} {x2 : Vec Ideal S1 .f32} {x3 x4 : Vec Ideal S1024x1024 .bf16}
  {x5 : Vec Ideal S1024x1792 .i8} {x6 : Vec Ideal S64x3584 .fp8e4m3} {y11 : Vec Ideal S1024x3584 .f32}
  {y14 y15 y16 : Vec Ideal S1024x128 .f32}

theorem step_acc (hI : Inv X G U (i 0).val (i 1).val y11 y14 y15 y16)
    (hB : Blk X G U w (i 0).val (i 1).val x2 x3 x4 x5 x6) (h : 0 < (i 0).val) (p : Fin 1024) (c : Fin 3584) :
    View.canon (LAcc (F := Ideal) i x4 x5 x6 y16 y11) (ix2 p c)
      = accN X G U (1024 * ((i 0).val - 1) + p.val) (1024 * ((i 1).val + 1)) c.val := by
  rw [canonAcc i x4 x5 x6 y16 (fun p => Spec.inv (rowMax (X (1024 * ((i 0).val - 1) + p.val)) 12288)) y11 (hI.inv h (le10 i))]
  unfold accV
  have e1 : (∑ x : Fin 1024, clip (Spec.inv (rowMax (X (1024 * ((i 0).val - 1) + p.val)) 12288)) (x4 (ix2 p x))
        * wcell (x5 (ix2 x ⟨c.val / 256 * 128 + c.val % 128, by omega⟩)) (x6 (ix2 ⟨x.val / 16, by omega⟩ c)) c.val)
      = ∑ x ∈ Finset.range 1024, xcode X (1024 * ((i 0).val - 1) + p.val) (1024 * (i 1).val + x)
        * Wc G U (1024 * (i 1).val + x) c.val := by
    rw [Finset.sum_range]
    refine Finset.sum_congr rfl fun x _ => ?_
    rw [hB.xq h, hB.wt h]
    rfl
  rw [e1]
  have e2 : (if (i 1).val = 0 then (0 : EReal) else y11 (ix2 p c))
      = accN X G U (1024 * ((i 0).val - 1) + p.val) (1024 * (i 1).val) c.val := by
    split
    next h0 => rw [h0]; simp [accN]
    next h0 => exact hI.acc h (by omega) p c
  rw [e2, add_comm]
  unfold accN
  rw [show 1024 * ((i 1).val + 1) = 1024 * (i 1).val + 1024 by omega, Finset.sum_range_add]

theorem hN_eq (r : Fin 1024 → ℕ) (p : Fin 1024) :
    hN (fun p c => accN X G U (r p) 12288 c) (fun p => xscale X (r p)) w p = hval X G U w (r p) := by
  funext j
  unfold hN hval proj accN Wc
  have h1 : (256 * (j / 128) + j % 128) % 256 < 128 := by omega
  have h2 : ¬(256 * (j / 128) + 128 + j % 128) % 256 < 128 := by omega
  have h3 : (256 * (j / 128) + j % 128) / 256 * 128 + (256 * (j / 128) + j % 128) % 128 = j := by omega
  have h4 : (256 * (j / 128) + 128 + j % 128) / 256 * 128 + (256 * (j / 128) + 128 + j % 128) % 128 = j := by omega
  simp only [if_pos h1, if_neg h2, h3, h4]

theorem step_xc (hI : Inv X G U (i 0).val (i 1).val y11 y14 y15 y16)
    (hB : Blk X G U w (i 0).val (i 1).val x2 x3 x4 x5 x6) (h : 0 < (i 0).val) (y9 : Vec Ideal S1024x1024 .fp8e4m3)
    (p q : Fin 1024) :
    outXc (F := Ideal) i x4 y16 y9 (ix2 p q) = xcode X (1024 * ((i 0).val - 1) + p.val) (1024 * (i 1).val + q.val) := by
  unfold outXc
  rw [if_pos ((cond1_iff i).mpr h),
    canonXc x4 y16 (fun p => Spec.inv (rowMax (X (1024 * ((i 0).val - 1) + p.val)) 12288)) (hI.inv h (le10 i)), hB.xq h]
  rfl

theorem step_hA (hI : Inv X G U (i 0).val (i 1).val y11 y14 y15 y16)
    (hB : Blk X G U w (i 0).val (i 1).val x2 x3 x4 x5 x6) (h : 0 < (i 0).val) (h11 : (i 1).val = 11) (p : Fin 1024)
    (c : Fin 3584) : View.canon (LAcc (F := Ideal) i x4 x5 x6 y16 y11) (ix2 p c)
      = (fun (p : Fin 1024) c => accN X G U (1024 * ((i 0).val - 1) + p.val) 12288 c) p c.val := by
  rw [step_acc hI hB h, h11]

theorem step_hc (hI : Inv X G U (i 0).val (i 1).val y11 y14 y15 y16)
    (hB : Blk X G U w (i 0).val (i 1).val x2 x3 x4 x5 x6) (h : 0 < (i 0).val) (h11 : (i 1).val = 11)
    (y7 : Vec Ideal S1024x1792 .fp8e4m3) (p : Fin 1024) (j : Fin 1792) :
    outHc (F := Ideal) i x2 x4 x5 x6 y15 y16 y11 y7 (ix2 p j)
      = hcode X G U w (1024 * ((i 0).val - 1) + p.val) j.val := by
  unfold outHc hexpAt LHh
  rw [if_pos ((cond2_iff i).mpr ⟨h, h11⟩), hB.wg,
    canonHc _ (fun (p : Fin 1024) c => accN X G U (1024 * ((i 0).val - 1) + p.val) 12288 c)
      (fun p => xscale X (1024 * ((i 0).val - 1) + p.val)) w y15 (step_hA hI hB h h11) (hI.sc h (le10 i)),
    hN_eq (fun p => 1024 * ((i 0).val - 1) + p.val)]
  rfl

theorem step_hs (hI : Inv X G U (i 0).val (i 1).val y11 y14 y15 y16)
    (hB : Blk X G U w (i 0).val (i 1).val x2 x3 x4 x5 x6) (h : 0 < (i 0).val) (h11 : (i 1).val = 11)
    (y8 : Vec Ideal S1x8x128 .f32) (a : Fin 1) (b : Fin 8) (l : Fin 128) :
    outHs (F := Ideal) i x2 x4 x5 x6 y15 y16 y11 y8 (ix3 a b l)
      = hscale X G U w (1024 * ((i 0).val - 1) + (128 * b.val + l.val)) := by
  unfold outHs hexpAt
  rw [if_pos ((cond2_iff i).mpr ⟨h, h11⟩), hB.wg, pay165_apply,
    (hexp _ (fun (p : Fin 1024) c => accN X G U (1024 * ((i 0).val - 1) + p.val) 12288 c)
      (fun p => xscale X (1024 * ((i 0).val - 1) + p.val)) w y15 (step_hA hI hB h h11) (hI.sc h (le10 i)) _ _).1,
    hN_eq (fun p => 1024 * ((i 0).val - 1) + p.val)]
  rfl

theorem step_xs (hI : Inv X G U (i 0).val (i 1).val y11 y14 y15 y16) (h : 0 < (i 0).val) (h11 : (i 1).val = 11)
    (y10 : Vec Ideal S1x8x128 .f32) (a : Fin 1) (b : Fin 8) (l : Fin 128) :
    outXs (F := Ideal) i y15 y10 (ix3 a b l) = xscale X (1024 * ((i 0).val - 1) + (128 * b.val + l.val)) := by
  unfold outXs
  rw [if_pos ((cond2_iff i).mpr ⟨h, h11⟩), pay165_apply, ldW, hI.sc h (le10 i)]

theorem step_max (hI : Inv X G U (i 0).val (i 1).val y11 y14 y15 y16)
    (hB : Blk X G U w (i 0).val (i 1).val x2 x3 x4 x5 x6) (h : (i 0).val < 10) (p : Fin 1024) (l : Fin 128) (z : EReal) :
    k0_pay2 (F := Ideal) i (View.ld x3 rB) (View.ld y14 rW) (ix2 p l) ≤ z ↔
      0 ≤ z ∧ ∀ c < 1024 * ((i 1).val + 1), c % 128 = l.val → ab (X (1024 * (i 0).val + p.val) c) ≤ z := by
  rw [max_le]
  have e : (if (i 1).val = 0 then (0 : EReal) else y14 (ix2 p l)) ≤ z ↔
      0 ≤ z ∧ ∀ c < 1024 * (i 1).val, c % 128 = l.val → ab (X (1024 * (i 0).val + p.val) c) ≤ z := by
    split
    next h0 => rw [h0]; exact ⟨fun hz => ⟨hz, fun c hc => absurd hc (by omega)⟩, fun hz => hz.1⟩
    next h0 => exact hI.max h (by omega) p l z
  rw [e]
  simp only [hB.xa h]
  constructor
  · rintro ⟨⟨h0, hlo⟩, hhi⟩
    refine ⟨h0, fun c hc hl => ?_⟩
    by_cases hc' : c < 1024 * (i 1).val
    · exact hlo c hc' hl
    · have := hhi ⟨(c - 1024 * (i 1).val) / 128, by omega⟩
      rwa [show 1024 * (i 1).val + (128 * ((c - 1024 * (i 1).val) / 128) + l.val) = c by omega] at this
  · rintro ⟨h0, hall⟩
    exact ⟨⟨h0, fun c hc hl => hall c (by omega) hl⟩, fun j => hall _ (by omega) (by omega)⟩

theorem step_M (hI : Inv X G U (i 0).val (i 1).val y11 y14 y15 y16)
    (hB : Blk X G U w (i 0).val (i 1).val x2 x3 x4 x5 x6) (h : (i 0).val < 10) (h11 : (i 1).val = 11) (p : Fin 1024)
    (z : EReal) : (∀ l, k0_pay2 (F := Ideal) i (View.ld x3 rB) (View.ld y14 rW) (ix2 p l) ≤ z) ↔
      rowMax (X (1024 * (i 0).val + p.val)) 12288 ≤ z := by
  rw [rowMax_le]
  simp only [step_max hI hB h, h11]
  constructor
  · intro hl
    exact ⟨(hl 0).1, fun c hc => (hl ⟨c % 128, by omega⟩).2 c (by omega) rfl⟩
  · rintro ⟨h0, hc⟩ l
    exact ⟨h0, fun c hlt _ => hc c (by omega)⟩

/-- One point carries the scratch on. -/
theorem step (hI : Inv X G U (i 0).val (i 1).val y11 y14 y15 y16)
    (hB : Blk X G U w (i 0).val (i 1).val x2 x3 x4 x5 x6) (i' k' : ℕ)
    (hn : ((i 1).val = 11 ∧ i' = (i 0).val + 1 ∧ k' = 0) ∨ ((i 1).val < 11 ∧ i' = (i 0).val ∧ k' = (i 1).val + 1)) :
    Inv X G U i' k' (outAcc (F := Ideal) i x4 x5 x6 y16 y11) (outMax (F := Ideal) i x3 y14)
      (outSc (F := Ideal) i x3 y14 y15) (outInv (F := Ideal) i x3 y14 y16) := by
  have hi := (i 0).isLt
  rcases hn with ⟨h11, rfl, rfl⟩ | ⟨h11, rfl, rfl⟩
  · refine ⟨fun _ h => absurd h (by omega), fun _ h10 p l => ?_, fun _ h10 p l => ?_, fun _ h => absurd h (by omega)⟩
    · unfold outSc
      rw [if_pos ⟨(cond3_iff i).mpr (by omega), (cond4_iff i).mpr h11⟩]
      exact (nextScale i x3 y14 p l _ (rowMax_nonneg _ _) fun z => step_M hI hB (by omega) h11 p z).1
    · unfold outInv
      rw [if_pos ⟨(cond3_iff i).mpr (by omega), (cond4_iff i).mpr h11⟩]
      exact (nextScale i x3 y14 p l _ (rowMax_nonneg _ _) fun z => step_M hI hB (by omega) h11 p z).2
  · refine ⟨fun h _ p l z => ?_, fun h _ p l => ?_, fun h _ p l => ?_, fun h _ p c => ?_⟩
    · unfold outMax
      rw [if_pos ((cond3_iff i).mpr h)]
      exact step_max hI hB h p l z
    · unfold outSc
      rw [if_neg (fun hh => absurd ((cond4_iff i).mp hh.2) (by omega))]
      exact hI.sc h (le10 i) p l
    · unfold outInv
      rw [if_neg (fun hh => absurd ((cond4_iff i).mp hh.2) (by omega))]
      exact hI.inv h (le10 i) p l
    · unfold outAcc
      rw [if_pos ((cond1_iff i).mpr h)]
      exact step_acc hI hB h p c

end Step

end Cert.KernelIdeal.Hand

end
-- ==== Proof.KernelBlk.lean ====
module

public import proofs.«01_k».proof.Proof.KernelStep
public import proofs.«01_k».proof.Proof.Gen.KernelIdeal.Frame
public import Idealize.ShloMosaic.Lib.StableHlo.ReadAt
public import Idealize.ShloMosaic.Lib.Pipeline.ValueKit

/-! The kernel's blocks as parts of the arguments. -/

@[expose] public section

set_option maxRecDepth 65536

noncomputable section

namespace Cert.KernelIdeal.Hand

open Idealize.ShloMosaic Cert.KernelIdeal Cert.KernelIdeal.Gen Idealize.ShloMosaic.TcCoe Cert.Spec

variable (m : (ℓ : Loc nD τ sig) → Buf (Elt Ideal) ℓ) (c : Dev nD)

abbrev ar0 : (⟨3, ![4, 2560, 12288]⟩ : Shape).Idx → EReal := m ((c.tc : Thread nD τ).loc main_arg0)
abbrev ar1 : (⟨2, ![12288, 1792]⟩ : Shape).Idx → BitVec 8 := m ((c.tc : Thread nD τ).loc main_arg1)
abbrev ar2 : (⟨2, ![768, 3584]⟩ : Shape).Idx → EReal := m ((c.tc : Thread nD τ).loc main_arg2)
abbrev ar3 : (⟨0, ![]⟩ : Shape).Idx → EReal := m ((c.tc : Thread nD τ).loc main_arg3)

theorem V_v2 (a : Fin 768) (b : Fin 3584) :
    V m c main_v2 (ix2 a b) = ar2 m c (ix2 a ⟨b.val / 256 * 256 + b.val % 128 * 2 + b.val / 128 % 2, by omega⟩) := by
  unfold V
  after_reads_at

theorem V_v3 : V m c main_v3 (ix1 0) = ar3 m c ix0 := by
  unfold V
  after_reads_at

theorem V_v4 (a : Fin 10240) (b : Fin 12288) :
    V m c main_v4 (ix2 a b) = ar0 m c (ix3 ⟨a.val / 2560, by omega⟩ ⟨a.val % 2560, by omega⟩ b) := by
  unfold V
  after_reads_at

theorem V_v5 (a : Fin 10240) (b : Fin 12288) :
    V m c main_v5 (ix2 a b) = ar0 m c (ix3 ⟨a.val / 2560, by omega⟩ ⟨a.val % 2560, by omega⟩ b) := by
  unfold V
  after_reads_at

/-- The point's row tile and column block. -/
theorem coords : ∀ t : Fin cfg0.N, (grid0.coords t 0).val = t.val / 12 ∧ (grid0.coords t 1).val = t.val % 12 := by
  decide +kernel

theorem Nlt (t : Fin cfg0.N) : t.val < 132 := t.isLt

theorem idx : ∀ t : Fin cfg0.N, win0_0.index t = ![0]
    ∧ win0_1.index t = ![min (t.val / 12) 9, if t.val / 12 < 10 then t.val % 12 else 11]
    ∧ win0_2.index t = ![t.val / 12 - 1, if 0 < t.val / 12 then t.val % 12 else 0]
    ∧ win0_3.index t = ![if 0 < t.val / 12 then t.val % 12 else 0, 0]
    ∧ win0_4.index t = ![if 0 < t.val / 12 then t.val % 12 else 0, 0]
    ∧ win0_5.index t = ![t.val / 12 - 1, 0] ∧ win0_6.index t = ![t.val / 12 - 1, 0, 0]
    ∧ win0_7.index t = ![t.val / 12 - 1, if 0 < t.val / 12 then t.val % 12 else 0]
    ∧ win0_8.index t = ![t.val / 12 - 1, 0, 0] := by decide +kernel

theorem emb0 (t : Fin cfg0.N) : (win0_0.blk t).view.emb (ix1 0) = ix1 0 := by
  funext a
  apply Fin.ext
  match a with
  | ⟨0, _⟩ => blk_simp [idx t]

theorem emb1 (t : Fin cfg0.N) (h : t.val / 12 < 10) (p q : Fin 1024) : (win0_1.blk t).view.emb (ix2 p q)
    = ix2 ⟨1024 * (t.val / 12) + p.val, by omega⟩ ⟨1024 * (t.val % 12) + q.val, by omega⟩ := by
  funext a
  apply Fin.ext
  match a with
  | ⟨0, _⟩ => blk_simp [idx t]; dsimp only; omega
  | ⟨1, _⟩ => blk_simp [idx t]; rw [if_pos h]; dsimp only; omega

theorem emb2 (t : Fin cfg0.N) (h : 0 < t.val / 12) (p q : Fin 1024) : (win0_2.blk t).view.emb (ix2 p q)
    = ix2 ⟨1024 * (t.val / 12 - 1) + p.val, by have := Nlt t; omega⟩ ⟨1024 * (t.val % 12) + q.val, by omega⟩ := by
  funext a
  apply Fin.ext
  match a with
  | ⟨0, _⟩ => blk_simp [idx t]; dsimp only; omega
  | ⟨1, _⟩ => blk_simp [idx t]; rw [if_pos h]; dsimp only; omega

theorem emb3 (t : Fin cfg0.N) (h : 0 < t.val / 12) (p : Fin 1024) (q : Fin 1792) : (win0_3.blk t).view.emb (ix2 p q)
    = ix2 ⟨1024 * (t.val % 12) + p.val, by omega⟩ q := by
  funext a
  apply Fin.ext
  match a with
  | ⟨0, _⟩ => blk_simp [idx t]; rw [if_pos h]; dsimp only; omega
  | ⟨1, _⟩ => blk_simp [idx t]

theorem emb4 (t : Fin cfg0.N) (h : 0 < t.val / 12) (p : Fin 64) (q : Fin 3584) : (win0_4.blk t).view.emb (ix2 p q)
    = ix2 ⟨64 * (t.val % 12) + p.val, by omega⟩ q := by
  funext a
  apply Fin.ext
  match a with
  | ⟨0, _⟩ => blk_simp [idx t]; rw [if_pos h]; dsimp only; omega
  | ⟨1, _⟩ => blk_simp [idx t]

theorem emb5 (t : Fin cfg0.N) (p : Fin 1024) (q : Fin 1792) : (win0_5.blk t).view.emb (ix2 p q)
    = ix2 ⟨1024 * (t.val / 12 - 1) + p.val, by have := Nlt t; omega⟩ q := by
  funext a
  apply Fin.ext
  match a with
  | ⟨0, _⟩ => blk_simp [idx t]; dsimp only; omega
  | ⟨1, _⟩ => blk_simp [idx t]

theorem emb6 (t : Fin cfg0.N) (a : Fin 1) (p : Fin 8) (q : Fin 128) : (win0_6.blk t).view.emb (ix3 a p q)
    = ix3 ⟨t.val / 12 - 1, by have := Nlt t; omega⟩ p q := by
  funext k
  apply Fin.ext
  match k with
  | ⟨0, _⟩ => blk_simp [idx t]
  | ⟨1, _⟩ => blk_simp [idx t]
  | ⟨2, _⟩ => blk_simp [idx t]

theorem emb7 (t : Fin cfg0.N) (h : 0 < t.val / 12) (p q : Fin 1024) : (win0_7.blk t).view.emb (ix2 p q)
    = ix2 ⟨1024 * (t.val / 12 - 1) + p.val, by have := Nlt t; omega⟩ ⟨1024 * (t.val % 12) + q.val, by omega⟩ := by
  funext a
  apply Fin.ext
  match a with
  | ⟨0, _⟩ => blk_simp [idx t]; dsimp only; omega
  | ⟨1, _⟩ => blk_simp [idx t]; rw [if_pos h]; dsimp only; omega

theorem emb8 (t : Fin cfg0.N) (a : Fin 1) (p : Fin 8) (q : Fin 128) : (win0_8.blk t).view.emb (ix3 a p q)
    = ix3 ⟨t.val / 12 - 1, by have := Nlt t; omega⟩ p q := by
  funext k
  apply Fin.ext
  match k with
  | ⟨0, _⟩ => blk_simp [idx t]
  | ⟨1, _⟩ => blk_simp [idx t]
  | ⟨2, _⟩ => blk_simp [idx t]

theorem blk0 (t : Fin cfg0.N) : wgF (F := Ideal) (iblk m c 0 t) = ar3 m c ix0 := by
  rw [← V_v3 m c, ← emb0 t]
  rfl

theorem blk1 (t : Fin cfg0.N) (h : t.val / 12 < 10) (p q : Fin 1024) :
    iblk m c 1 t (ix2 p q) = Xof (ar0 m c) (1024 * (t.val / 12) + p.val) (1024 * (t.val % 12) + q.val) := by
  have e : iblk m c 1 t (ix2 p q) = V m c main_v4 ((win0_1.blk t).view.emb (ix2 p q)) := rfl
  rw [e, emb1 t h, V_v4]
  unfold Xof
  rw [dif_pos ⟨by omega, by omega⟩]

theorem blk2 (t : Fin cfg0.N) (h : 0 < t.val / 12) (p q : Fin 1024) :
    iblk m c 2 t (ix2 p q) = Xof (ar0 m c) (1024 * (t.val / 12 - 1) + p.val) (1024 * (t.val % 12) + q.val) := by
  have e : iblk m c 2 t (ix2 p q) = V m c main_v5 ((win0_2.blk t).view.emb (ix2 p q)) := rfl
  have := Nlt t
  rw [e, emb2 t h, V_v5]
  unfold Xof
  rw [dif_pos ⟨by omega, by omega⟩]

theorem blk3 (t : Fin cfg0.N) (h : 0 < t.val / 12) (p : Fin 1024) (q : Fin 1792) :
    iblk m c 3 t (ix2 p q) = atB (ar1 m c) (1024 * (t.val % 12) + p.val) q.val := by
  have e : iblk m c 3 t (ix2 p q) = V m c main_arg1 ((win0_3.blk t).view.emb (ix2 p q)) := rfl
  rw [e, emb3 t h, V_main_arg1]
  exact (atB_mk (ar1 m c) _ _ (by omega) q.isLt).symm

theorem blk4 (t : Fin cfg0.N) (h : 0 < t.val / 12) (p : Fin 64) (q : Fin 3584) :
    iblk m c 4 t (ix2 p q)
      = at2 (ar2 m c) (64 * (t.val % 12) + p.val) (q.val / 256 * 256 + q.val % 128 * 2 + q.val / 128 % 2) := by
  have e : iblk m c 4 t (ix2 p q) = V m c main_v2 ((win0_4.blk t).view.emb (ix2 p q)) := rfl
  rw [e, emb4 t h, V_v2]
  exact (at2_mk (ar2 m c) _ _ (by omega) (by omega)).symm

theorem wcell_eq (Q : ℕ → ℕ → BitVec 8) (S : ℕ → ℕ → EReal) (K r n : ℕ) (hr : r = K / 16) :
    wcell (Q K (n / 256 * 128 + n % 128)) (S r (n / 256 * 256 + n % 128 * 2 + n / 128 % 2)) n
      = Wc (wGate Q S) (wUp Q S) K n := by
  subst hr
  unfold wcell Wc wGate wUp
  by_cases h : n % 256 < 128
  · rw [if_pos h, if_pos h, show n / 256 * 256 + n % 128 * 2 + n / 128 % 2 = 2 * (n / 256 * 128 + n % 128) by omega]
  · rw [if_neg h, if_neg h, show n / 256 * 256 + n % 128 * 2 + n / 128 % 2 = 2 * (n / 256 * 128 + n % 128) + 1 by omega]

theorem blocks (t : Fin cfg0.N) : Blk (Xof (ar0 m c)) (Gof (ar1 m c) (ar2 m c)) (Uof (ar1 m c) (ar2 m c)) (ar3 m c ix0)
    (grid0.coords t 0).val (grid0.coords t 1).val (iblk m c 0 t) (iblk m c 1 t) (iblk m c 2 t) (iblk m c 3 t)
    (iblk m c 4 t) := by
  rw [(coords t).1, (coords t).2]
  refine ⟨blk0 m c t, fun h p q => blk1 m c t h p q, fun h p q => blk2 m c t h p q, fun h x n => ?_⟩
  rw [blk3 m c t h, blk4 m c t h]
  exact wcell_eq (atB (ar1 m c)) (at2 (ar2 m c)) _ _ _ (by show 64 * (t.val % 12) + x.val / 16 = _; omega)

end Cert.KernelIdeal.Hand

end
-- ==== Proof.KernelRun.lean ====
module

public import proofs.«01_k».proof.Proof.BodyRun
public import proofs.«01_k».proof.Proof.KernelBlk
public import proofs.«01_k».proof.Proof.KernelIdealFrame
public import Idealize.ShloMosaic.Lib.Pipeline.DatRel
public import Idealize.ShloMosaic.Lib.Pipeline.ArrRel
public import Idealize.ShloMosaic.Lib.Pipeline.ValueKit

/-! The kernel's run: the scratch's invariant carried over the grid, each result array as the mathematics states it. -/

@[expose] public section

set_option maxRecDepth 16384

noncomputable section

namespace Cert.KernelIdeal.Val

open Cert.KernelIdeal.Gen Cert.KernelIdeal.Hand Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-- The activations, the two weight matrices and the global scale, by natural-number coordinates. -/
abbrev Xm : ℕ → ℕ → EReal := Xof (ar0 m c)
abbrev Gm : ℕ → ℕ → EReal := Gof (ar1 m c) (ar2 m c)
abbrev Um : ℕ → ℕ → EReal := Uof (ar1 m c) (ar2 m c)
abbrev wm : EReal := ar3 m c ix0

/-- The invariant before point `n`: the scratch at contents that meet `Inv`. -/
def Phi (n : ℕ) : sProp 𝕄 :=
  iprop(∃ (y11 : Vec Ideal S1024x3584 .f32) (y12 : Vec Ideal S1024x1792 .f32) (y13 : Vec Ideal S1024x1024 .bf16)
      (y14 : Vec Ideal S1024x128 .f32) (y15 : Vec Ideal S1024x128 .f32) (y16 : Vec Ideal S1024x128 .f32),
    ⌜Inv (Xm m c) (Gm m c) (Um m c) (n / 12) (n % 12) y11 y14 y15 y16⌝
    ∗ owns (c : Thread nD τ) (Memref.whole cc0_scratch0) fullShare y11 ∗ owns (c : Thread nD τ) (Memref.whole cc0_scratch1) fullShare y12
    ∗ owns (c : Thread nD τ) (Memref.whole cc0_scratch2) fullShare y13 ∗ owns (c : Thread nD τ) (Memref.whole cc0_scratch3) fullShare y14
    ∗ owns (c : Thread nD τ) (Memref.whole cc0_scratch4) fullShare y15 ∗ owns (c : Thread nD τ) (Memref.whole cc0_scratch5) fullShare y16
    ∗ ∃ r, prngReg c r)

/-- The proof data: the inputs at their blocks, the scratch at the invariant. -/
def vdat (c : Dev nD) : Dat τ (Elt Ideal) Unit ℕ (UR sig nD τ) ℕ cfg0 c where
  A w := V m c (Pipeline.arrRef spec0 w)
  after := (dats m 0 c).after
  Φ t := Phi m c t.val
  q _ := fullShare
  owed _ := 0

/-- What the body leaves in the result windows at the points that write them back. -/
def Q5 (t : Fin cfg0.N) (Y : Vec Ideal S1024x1792 .fp8e4m3) : Prop :=
  0 < t.val / 12 → t.val % 12 = 11 → ∀ (p : Fin 1024) (j : Fin 1792),
    Y (ix2 p j) = hcode (Xm m c) (Gm m c) (Um m c) (wm m c) (1024 * (t.val / 12 - 1) + p.val) j.val
def Q6 (t : Fin cfg0.N) (Y : Vec Ideal S1x8x128 .f32) : Prop :=
  0 < t.val / 12 → t.val % 12 = 11 → ∀ (a : Fin 1) (b : Fin 8) (l : Fin 128),
    Y (ix3 a b l) = hscale (Xm m c) (Gm m c) (Um m c) (wm m c) (1024 * (t.val / 12 - 1) + (128 * b.val + l.val))
def Q7 (t : Fin cfg0.N) (Y : Vec Ideal S1024x1024 .fp8e4m3) : Prop :=
  0 < t.val / 12 → ∀ p q : Fin 1024,
    Y (ix2 p q) = xcode (Xm m c) (1024 * (t.val / 12 - 1) + p.val) (1024 * (t.val % 12) + q.val)
def Q8 (t : Fin cfg0.N) (Y : Vec Ideal S1x8x128 .f32) : Prop :=
  0 < t.val / 12 → t.val % 12 = 11 → ∀ (a : Fin 1) (b : Fin 8) (l : Fin 128),
    Y (ix3 a b l) = xscale (Xm m c) (1024 * (t.val / 12 - 1) + (128 * b.val + l.val))

/-- The same, window by window. -/
def Rl (w : Fin cfg0.W) (t : Fin cfg0.N) : ((cfg0.win w).block.Idx → Elt Ideal (cfg0.win w).elt) → Prop :=
  match w with
  | ⟨5, _⟩ => fun Y => Q5 m c t Y
  | ⟨6, _⟩ => fun Y => Q6 m c t Y
  | ⟨7, _⟩ => fun Y => Q7 m c t Y
  | ⟨8, _⟩ => fun Y => Q8 m c t Y
  | ⟨0, _⟩ => fun _ => True
  | ⟨1, _⟩ => fun _ => True
  | ⟨2, _⟩ => fun _ => True
  | ⟨3, _⟩ => fun _ => True
  | ⟨4, _⟩ => fun _ => True

theorem vA (w : Fin cfg0.W) : (vdat m c).A w = V m c (Pipeline.arrRef spec0 w) := by
  dsimp only [vdat]
theorem vafter (w : Fin cfg0.W) (t : Fin cfg0.N) : (vdat m c).after w t = (dats m 0 c).after w t := by dsimp only [vdat]
theorem vb0 (t : Fin cfg0.N) (d) : (vdat m c).before 0 t d = iblk m c 0 t :=
  before0_0_of m (vdat m c) (vA m c 0) (fun t => (vafter m c 0 t).trans (after0_0 m c t)) t d
theorem vb1 (t : Fin cfg0.N) (d) : (vdat m c).before 1 t d = iblk m c 1 t :=
  before0_1_of m (vdat m c) (vA m c 1) (fun t => (vafter m c 1 t).trans (after0_1 m c t)) t d
theorem vb2 (t : Fin cfg0.N) (d) : (vdat m c).before 2 t d = iblk m c 2 t :=
  before0_2_of m (vdat m c) (vA m c 2) (fun t => (vafter m c 2 t).trans (after0_2 m c t)) t d
theorem vb3 (t : Fin cfg0.N) (d) : (vdat m c).before 3 t d = iblk m c 3 t :=
  before0_3_of m (vdat m c) (vA m c 3) (fun t => (vafter m c 3 t).trans (after0_3 m c t)) t d
theorem vb4 (t : Fin cfg0.N) (d) : (vdat m c).before 4 t d = iblk m c 4 t :=
  before0_4_of m (vdat m c) (vA m c 4) (fun t => (vafter m c 4 t).trans (after0_4 m c t)) t d

/-- What the body is called with at point `t`. -/
def vPre (t : Fin cfg0.N) : sProp 𝕄 :=
  iprop(Phi m c t.val ∗ (vdat m c).owesAt () t.castSucc
    ∗ (∃ d, owns (c : Thread nD τ) (st0_0 t) fullShare ((vdat m c).before 0 t d))
    ∗ (∃ d, owns (c : Thread nD τ) (st0_1 t) fullShare ((vdat m c).before 1 t d))
    ∗ (∃ d, owns (c : Thread nD τ) (st0_2 t) fullShare ((vdat m c).before 2 t d))
    ∗ (∃ d, owns (c : Thread nD τ) (st0_3 t) fullShare ((vdat m c).before 3 t d))
    ∗ (∃ d, owns (c : Thread nD τ) (st0_4 t) fullShare ((vdat m c).before 4 t d))
    ∗ (∃ X, ⌜((vdat m c).toRRel fgt (Rl m c)).Finds 5 t X⌝ ∗ owns (c : Thread nD τ) (st0_5 t) fullShare X)
    ∗ (∃ X, ⌜((vdat m c).toRRel fgt (Rl m c)).Finds 6 t X⌝ ∗ owns (c : Thread nD τ) (st0_6 t) fullShare X)
    ∗ (∃ X, ⌜((vdat m c).toRRel fgt (Rl m c)).Finds 7 t X⌝ ∗ owns (c : Thread nD τ) (st0_7 t) fullShare X)
    ∗ (∃ X, ⌜((vdat m c).toRRel fgt (Rl m c)).Finds 8 t X⌝ ∗ owns (c : Thread nD τ) (st0_8 t) fullShare X))

/-- and what it returns. -/
def vPost (t : Fin cfg0.N) : sProp 𝕄 :=
  iprop(Phi m c (t.val + 1) ∗ (vdat m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ X, ⌜Q5 m c t X⌝ ∗ owns (c : Thread nD τ) (st0_5 t) fullShare X)
    ∗ (∃ X, ⌜Q6 m c t X⌝ ∗ owns (c : Thread nD τ) (st0_6 t) fullShare X)
    ∗ (∃ X, ⌜Q7 m c t X⌝ ∗ owns (c : Thread nD τ) (st0_7 t) fullShare X)
    ∗ (∃ X, ⌜Q8 m c t X⌝ ∗ owns (c : Thread nD τ) (st0_8 t) fullShare X))

/-- One point: from the invariant before it, the invariant after it and the results' blocks. -/
theorem point (t : Fin cfg0.N) (y7 : Vec Ideal S1024x1792 .fp8e4m3) (y8 : Vec Ideal S1x8x128 .f32)
    (y9 : Vec Ideal S1024x1024 .fp8e4m3) (y10 : Vec Ideal S1x8x128 .f32) (y11 : Vec Ideal S1024x3584 .f32)
    (y14 y15 y16 : Vec Ideal S1024x128 .f32)
    (h : Inv (Xm m c) (Gm m c) (Um m c) (t.val / 12) (t.val % 12) y11 y14 y15 y16) :
    Inv (Xm m c) (Gm m c) (Um m c) ((t.val + 1) / 12) ((t.val + 1) % 12)
        (outAcc (F := Ideal) (grid0.coords t) (iblk m c 2 t) (iblk m c 3 t) (iblk m c 4 t) y16 y11)
        (outMax (F := Ideal) (grid0.coords t) (iblk m c 1 t) y14)
        (outSc (F := Ideal) (grid0.coords t) (iblk m c 1 t) y14 y15)
        (outInv (F := Ideal) (grid0.coords t) (iblk m c 1 t) y14 y16)
      ∧ Q5 m c t (outHc (F := Ideal) (grid0.coords t) (iblk m c 0 t) (iblk m c 2 t) (iblk m c 3 t) (iblk m c 4 t) y15 y16 y11 y7)
      ∧ Q6 m c t (outHs (F := Ideal) (grid0.coords t) (iblk m c 0 t) (iblk m c 2 t) (iblk m c 3 t) (iblk m c 4 t) y15 y16 y11 y8)
      ∧ Q7 m c t (outXc (F := Ideal) (grid0.coords t) (iblk m c 2 t) y16 y9)
      ∧ Q8 m c t (outXs (F := Ideal) (grid0.coords t) y15 y10) := by
  have e := coords t
  have hB := blocks m c t
  have h' : Inv (Xm m c) (Gm m c) (Um m c) (grid0.coords t 0).val (grid0.coords t 1).val y11 y14 y15 y16 := by
    rw [e.1, e.2]; exact h
  refine ⟨step h' hB _ _ (by rw [e.1, e.2]; omega), fun h0 h1 p j => ?_, fun h0 h1 a b l => ?_, fun h0 p q => ?_,
    fun h0 h1 a b l => ?_⟩
  · rw [step_hc h' hB (by rw [e.1]; exact h0) (by rw [e.2]; exact h1), e.1]
  · rw [step_hs h' hB (by rw [e.1]; exact h0) (by rw [e.2]; exact h1), e.1]
  · rw [step_xc h' hB (by rw [e.1]; exact h0), e.1, e.2]
  · rw [step_xs h' (by rw [e.1]; exact h0) (by rw [e.2]; exact h1), e.1]

/-- The body at any point. -/
theorem sound (t : Fin cfg0.N) :
    vPre m c t ⊢ wp frame (wpE (defs₀ (F := Ideal)) Variants.none c none) Set.univ (bodyAt0 t) (fun _ => vPost m c t) := by
  unfold vPre vPost bodyAt0 Phi
  simp only [vb0, vb1, vb2, vb3, vb4]
  iintro ⟨⟨%y11, %y12, %y13, %y14, %y15, %y16, %hI, S0, S1, S2, S3, S4, S5, Hr⟩, Ho, ⟨%d0, H0⟩, ⟨%d1, H1⟩, ⟨%d2, H2⟩, ⟨%d3, H3⟩, ⟨%d4, H4⟩, ⟨%y7, %hf7, H5⟩, ⟨%y8, %hf8, H6⟩, ⟨%y9, %hf9, H7⟩, ⟨%y10, %hf10, H8⟩⟩
  iapply (sound_val (F := Ideal) c Set.univ (grid0.coords t) (fun h => (cond1_iff _).mpr ((cond2_iff _).mp h).1) _ _ _ _ _ _ _ _ _ _ _ _ _ _ _ _ _ _ _ _ _ _ _ _ _ _ _ _ _ _ (iblk m c 0 t) (iblk m c 1 t) (iblk m c 2 t) (iblk m c 3 t) (iblk m c 4 t) y7 y8 y9 y10 y11 y12 y13 y14 y15 y16 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hr]
  · iexists _; iexists _; iexists _; iexists _; iexists _; iexists _
    isplitr
    swap
    · isplitl [S0]; · iexact S0
      isplitl [S1]; · iexact S1
      isplitl [S2]; · iexact S2
      isplitl [S3]; · iexact S3
      isplitl [S4]; · iexact S4
      isplitl [S5]; · iexact S5
      iexact Hr
    ipureintro; exact (point m c t y7 y8 y9 y10 y11 y14 y15 y16 hI).1
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; exact (point m c t y7 y8 y9 y10 y11 y14 y15 y16 hI).2.1
  isplitl [H6]
  · iexists _; isplitr
    swap; · iexact H6
    ipureintro; exact (point m c t y7 y8 y9 y10 y11 y14 y15 y16 hI).2.2.1
  isplitl [H7]
  · iexists _; isplitr
    swap; · iexact H7
    ipureintro; exact (point m c t y7 y8 y9 y10 y11 y14 y15 y16 hI).2.2.2.1
  iexists _; isplitr
  swap; · iexact H8
  ipureintro; exact (point m c t y7 y8 y9 y10 y11 y14 y15 y16 hI).2.2.2.2

/-- The library's body obligation, each result window held to what is said of it. -/
theorem vbody : Pipeline.BodyObligationRel (vdat m c) (defs₀ (F := Ideal)) Variants.none () Set.univ fgt (Rl m c) := fun t => by
  rw [bigSep_W0, bigSep_W0, defs₀_row]
  exact triple_restated (sound m c t) rfl .rfl fun _ => .rfl

theorem inv0 (y11 : Vec Ideal S1024x3584 .f32) (y14 y15 y16 : Vec Ideal S1024x128 .f32) :
    Inv (Xm m c) (Gm m c) (Um m c) (0 / 12) (0 % 12) y11 y14 y15 y16 :=
  ⟨fun _ h => absurd h (by decide), fun h => absurd h (by decide), fun h => absurd h (by decide),
    fun h => absurd h (by decide)⟩

theorem vin : Pipeline.ΦA spec0 c ⊢ (((vdat m c).toRRel fgt (Rl m c)).Φ 0 : sProp 𝕄) := by
  show _ ⊢ Phi m c 0
  unfold Pipeline.ΦA Phi
  rw [scopedRest0_eq]
  simp only [← owns_whole]
  iintro ⟨⟨⟨%y11, S0⟩, ⟨%y12, S1⟩, ⟨%y13, S2⟩, ⟨%y14, S3⟩, ⟨%y15, S4⟩, ⟨%y16, S5⟩⟩, Hr⟩
  iexists y11; iexists y12; iexists y13; iexists y14; iexists y15; iexists y16
  isplitr
  · ipureintro; exact inv0 m c y11 y14 y15 y16
  isplitl [S0]; · iexact S0
  isplitl [S1]; · iexact S1
  isplitl [S2]; · iexact S2
  isplitl [S3]; · iexact S3
  isplitl [S4]; · iexact S4
  isplitl [S5]; · iexact S5
  iexact Hr

theorem vout : (((vdat m c).toRRel fgt (Rl m c)).Φ (Fin.last cfg0.N) : sProp 𝕄) ⊢ Pipeline.ΦA spec0 c := by
  show Phi m c cfg0.N ⊢ _
  unfold Pipeline.ΦA Phi
  rw [scopedRest0_eq]
  simp only [← owns_whole]
  iintro ⟨%y11, %y12, %y13, %y14, %y15, %y16, %hI, S0, S1, S2, S3, S4, S5, Hr⟩
  isplitr [Hr]
  · isplitl [S0]; · iexists y11; iexact S0
    isplitl [S1]; · iexists y12; iexact S1
    isplitl [S2]; · iexists y13; iexact S2
    isplitl [S3]; · iexists y14; iexact S3
    isplitl [S4]; · iexists y15; iexact S4
    iexists y16; iexact S5
  · iexact Hr

set_option backward.isDefEq.respectTransparency.types false in
set_option maxHeartbeats 800000 in
/-- The launch. -/
theorem run_main : θ_run defs (onTc (τ := τ) (main (F := Ideal))) (s₀ m ρ)
    (fun r => (Pipeline.RDat.FramePost cfg0 (fun c => (vdat m c).toRRel fgt (Rl m c)) (V m)) r ∧ r.2.sem = fun _ => 0) :=
  Pipeline.RDat.θ_run_frame_track (Q' := _) cfgs (0 : Fin 1) launch0 defs₀ Variants.none
    (fun c => (vdat m c).toRRel fgt (Rl m c)) m ρ main
    (hbody := fun c => (vbody m c).toRRel) (hshare := fun c => (vdat m c).share_full fun _ => rfl)
    (howed := fun _ _ => rfl) (V := V m) (hmain := hmain m Variants.none) (hA := vA m)
    (hin := vin m) (hout := vout m)

section Arrays

variable (after : (w' : Fin cfg0.W) → Fin cfg0.N → (cfg0.win w').block.Idx → Elt Ideal (cfg0.win w').elt)
  (hL : ∀ (w : Fin cfg0.W) (u : Fin cfg0.N), (cfg0.win w).flush u = true →
    ((vdat m c).toRRel fgt (Rl m c)).Leaves w u (after w u))

theorem flush5 : ∀ t : Fin cfg0.N, (cfg0.win 5).flush t = true → 0 < t.val / 12 ∧ t.val % 12 = 11 := by decide +kernel
theorem flush6 : ∀ t : Fin cfg0.N, (cfg0.win 6).flush t = true → 0 < t.val / 12 ∧ t.val % 12 = 11 := by decide +kernel
theorem flush7 : ∀ t : Fin cfg0.N, (cfg0.win 7).flush t = true → 0 < t.val / 12 := by decide +kernel
theorem flush8 : ∀ t : Fin cfg0.N, (cfg0.win 8).flush t = true → 0 < t.val / 12 ∧ t.val % 12 = 11 := by decide +kernel

include hL

theorem leaves5 (t : Fin cfg0.N) (hf : (cfg0.win 5).flush t = true) : Q5 m c t (after 5 t) :=
  (vdat m c).toRRel_leaves (fgt := fgt) (Rl := Rl m c) (w := 5) rfl (hL 5 t hf)
theorem leaves6 (t : Fin cfg0.N) (hf : (cfg0.win 6).flush t = true) : Q6 m c t (after 6 t) :=
  (vdat m c).toRRel_leaves (fgt := fgt) (Rl := Rl m c) (w := 6) rfl (hL 6 t hf)
theorem leaves7 (t : Fin cfg0.N) (hf : (cfg0.win 7).flush t = true) : Q7 m c t (after 7 t) :=
  (vdat m c).toRRel_leaves (fgt := fgt) (Rl := Rl m c) (w := 7) rfl (hL 7 t hf)
theorem leaves8 (t : Fin cfg0.N) (hf : (cfg0.win 8).flush t = true) : Q8 m c t (after 8 t) :=
  (vdat m c).toRRel_leaves (fgt := fgt) (Rl := Rl m c) (w := 8) rfl (hL 8 t hf)

theorem arr5 : (((vdat m c).toRRel fgt (Rl m c)).withAfter after).arrAt 5 cfg0.N
    = R0 (ar0 m c) (ar1 m c) (ar2 m c) (ar3 m c) := by
  refine (((vdat m c).toRRel fgt (Rl m c)).withAfter after).arrAt_eq_of_covers 5 _ (by decide +kernel) fun t hf y => ?_
  have hl := leaves5 m c after hL t hf
  have hq := flush5 t hf
  clear hL
  idx_vars y
  blk_simp
  rw [emb5]
  exact hl hq.1 hq.2 _ _

theorem arr6 : (((vdat m c).toRRel fgt (Rl m c)).withAfter after).arrAt 6 cfg0.N
    = R1 (ar0 m c) (ar1 m c) (ar2 m c) (ar3 m c) := by
  refine (((vdat m c).toRRel fgt (Rl m c)).withAfter after).arrAt_eq_of_covers 6 _ (by decide +kernel) fun t hf y => ?_
  have hl := leaves6 m c after hL t hf
  have hq := flush6 t hf
  clear hL
  idx_vars y
  blk_simp
  rw [emb6]
  refine (hl hq.1 hq.2 _ _ _).trans (congrArg (hscale _ _ _ _) ?_)
  show 1024 * (t.val / 12 - 1) + (128 * y1.val + y2.val) = (t.val / 12 - 1) * 1024 + y1.val * 128 + y2.val
  omega

theorem arr7 : (((vdat m c).toRRel fgt (Rl m c)).withAfter after).arrAt 7 cfg0.N = R2 (ar0 m c) := by
  refine (((vdat m c).toRRel fgt (Rl m c)).withAfter after).arrAt_eq_of_covers 7 _ (by decide +kernel) fun t hf y => ?_
  have hl := leaves7 m c after hL t hf
  have hq := flush7 t hf
  clear hL
  idx_vars y
  blk_simp
  rw [emb7 _ hq]
  exact hl hq _ _

theorem arr8 : (((vdat m c).toRRel fgt (Rl m c)).withAfter after).arrAt 8 cfg0.N = R3 (ar0 m c) := by
  refine (((vdat m c).toRRel fgt (Rl m c)).withAfter after).arrAt_eq_of_covers 8 _ (by decide +kernel) fun t hf y => ?_
  have hl := leaves8 m c after hL t hf
  have hq := flush8 t hf
  clear hL
  idx_vars y
  blk_simp
  rw [emb8]
  refine (hl hq.1 hq.2 _ _ _).trans (congrArg (xscale _) ?_)
  show 1024 * (t.val / 12 - 1) + (128 * y1.val + y2.val) = (t.val / 12 - 1) * 1024 + y1.val * 128 + y2.val
  omega

end Arrays

/-- The kernel's results, by the mathematics, and its arguments unchanged. -/
theorem run_value :
    θ_run (defs (F := Ideal)) (onTc (τ := τ) (main (F := Ideal))) ⟨m, fun _ => 0, ρ⟩ (fun r => ∀ c : Dev nD,
      r.2.mem ((c.tc : Thread nD τ).loc main_v6_0) = R0 (ar0 m c) (ar1 m c) (ar2 m c) (ar3 m c)
      ∧ r.2.mem ((c.tc : Thread nD τ).loc main_v6_1) = R1 (ar0 m c) (ar1 m c) (ar2 m c) (ar3 m c)
      ∧ r.2.mem ((c.tc : Thread nD τ).loc main_v6_2) = R2 (ar0 m c)
      ∧ r.2.mem ((c.tc : Thread nD τ).loc main_v6_3) = R3 (ar0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h => ?_) (θ_run_and (run_main m ρ) (Hand.frame m ρ))
  intro c
  obtain ⟨after, hL, hA⟩ := Pipeline.RDat.FramePost.exists_exact h.1.1 c
  exact ⟨(hA 5).trans (arr5 m c after hL), (hA 6).trans (arr6 m c after hL), (hA 7).trans (arr7 m c after hL),
    (hA 8).trans (arr8 m c after hL), h.2.1 c⟩

end Cert.KernelIdeal.Val

end
-- ==== Proof.RefVal.lean ====
module

public import proofs.«01_k».proof.Proof.Gen.ReferenceIdeal.Frame
public import proofs.«01_k».proof.Proof.Reads

/-! What the reference's one body stores, entry by entry. -/

@[expose] public section

noncomputable section

namespace Cert.ReferenceIdeal.Hand

open Idealize.ShloMosaic Cert.ReferenceIdeal Cert.ReferenceIdeal.Gen Cert.Spec

theorem amaxx_apply (v : FVec Ideal S10240x12288 .f32) (r : Fin 10240) (z : Fin 1) :
    shapeCast S10240x1 (multiReduction (F := Ideal) .maximumf [1] S10240 (absf v) 0xFF800000#32 reduces_S10240x12288_S10240 (.inl rfl) rfl) shapeCasts_S10240_S10240x1 (ix2 r z)
     = rowMax (at2 v r) 12288 := by
  generalize hw : multiReduction (F := Ideal) .maximumf [1] S10240 (absf v) 0xFF800000#32 reduces_S10240x12288_S10240 (.inl rfl) rfl = w
  pointwise
  rw [← hw]
  refine (rowfold (absf v) reduces_S10240x12288_S10240 (.inl rfl) rfl _).trans ?_
  rw [← fold_ab (by omega)]
  refine Finset.fold_congr fun k _ => ?_
  rw [at2_eq]
  exact Ideal.absf_def _

theorem amaxh_apply (v : FVec Ideal S10240x1792 .f32) (r : Fin 10240) (z : Fin 1) :
    shapeCast S10240x1 (multiReduction (F := Ideal) .maximumf [1] S10240 (absf v) 0xFF800000#32 reduces_S10240x1792_S10240 (.inl rfl) rfl) shapeCasts_S10240_S10240x1 (ix2 r z)
     = rowMax (at2 v r) 1792 := by
  generalize hw : multiReduction (F := Ideal) .maximumf [1] S10240 (absf v) 0xFF800000#32 reduces_S10240x1792_S10240 (.inl rfl) rfl = w
  pointwise
  rw [← hw]
  refine (rowfold (absf v) reduces_S10240x1792_S10240 (.inl rfl) rfl _).trans ?_
  rw [← fold_ab (by omega)]
  refine Finset.fold_congr fun k _ => ?_
  rw [at2_eq]
  exact Ideal.absf_def _

def eB (A : FVec Ideal S10240x1 .f32) : FVec Ideal S10240x1 .f32 := mulf A (broadcast S10240x1 (Scalar.ofBits (F := Ideal) .f32 0x3B124925#32))
def eL (B : FVec Ideal S10240x1 .f32) : FVec Ideal S10240x1 .f32 :=
  floor (divf (log B) (log (broadcast S10240x1 (Scalar.ofBits (F := Ideal) .f32 0x40000000#32))))
def eP (B : FVec Ideal S10240x1 .f32) : FVec Ideal S10240x1 .f32 := addf B (broadcast S10240x1 (Scalar.ofBits (F := Ideal) .f32 0x3F800000#32))
def eM (B : FVec Ideal S10240x1 .f32) : FVec Ideal S10240x1 .f32 :=
  maximumf (broadcast S10240x1 (Scalar.ofBits (F := Ideal) .f32 0xC2FC0000#32)) B
def eN (B : FVec Ideal S10240x1 .f32) : FVec Ideal S10240x1 .f32 :=
  minimumf (broadcast S10240x1 (Scalar.ofBits (F := Ideal) .f32 0x42FC0000#32)) B
def eS (A B : FVec Ideal S10240x1 .f32) : FVec Ideal S10240x1 .f32 :=
  select (cmpf .oeq A (broadcast S10240x1 (Scalar.ofBits (F := Ideal) .f32 0#32))) (broadcast S10240x1 (Scalar.ofBits (F := Ideal) .f32 0#32)) B

variable (A B : FVec Ideal S10240x1 .f32) (r : Fin 10240) (z : Fin 1)

theorem eB_apply : eB A (ix2 r z) = A (ix2 r z) * cS := by pointwise [eB]; rfl
theorem eL_apply : eL B (ix2 r z) = Ideal.liftRound Int.floor (Ideal.div (Ideal.log (B (ix2 r z))) (Ideal.log 2)) := by
  pointwise [eL]; rw [ofBits_two]; rfl
theorem eP_apply : eP B (ix2 r z) = B (ix2 r z) + 1 := by pointwise [eP]
theorem eM_apply : eM B (ix2 r z) = max (-126) (B (ix2 r z)) := by
  pointwise [eM]; rw [ofBits_neg_126, EReal.coe_neg]; rfl
theorem eN_apply : eN B (ix2 r z) = min 126 (B (ix2 r z)) := by
  pointwise [eN]; rw [ofBits_126]; rfl
theorem eS_apply : eS A B (ix2 r z) = if A (ix2 r z) = 0 then 0 else B (ix2 r z) := by
  pointwise [eS]

theorem eAll_apply : eS A (eN (eM (eP (eL (eB A))))) (ix2 r z) = ex (A (ix2 r z)) := by
  rw [eS_apply, eN_apply, eM_apply, eP_apply, eL_apply, eB_apply]
  unfold ex Cert.Scale.expL
  by_cases h : A (ix2 r z) = 0
  · rw [if_pos h, if_pos (mul_cS_eq_zero.mpr h)]
  · rw [if_neg h, if_neg (fun e => h (mul_cS_eq_zero.mp e))]

theorem pay6_apply (x : Vec Ideal S10240x12288 .bf16) :
    k0_pay6 (F := Ideal) x (ix2 r z) = ex (rowMax (at2 (k0_pay5 (F := Ideal) x) r) 12288) := by
  rw [← amaxx_apply (k0_pay5 x) r z]
  unfold k0_pay6
  dsimp only
  generalize (shapeCast S10240x1 (multiReduction (F := Ideal) .maximumf [1] S10240 (absf (k0_pay5 x)) 0xFF800000#32 reduces_S10240x12288_S10240 (.inl rfl) rfl) shapeCasts_S10240_S10240x1) = A
  exact eAll_apply A r z

theorem pay5_eq (x : Vec Ideal S10240x12288 .bf16) : k0_pay5 (F := Ideal) x = x := by
  funext j
  idx_vars j
  pointwise [k0_pay5]

theorem pay6_ex (x : Vec Ideal S10240x12288 .bf16) :
    k0_pay6 (F := Ideal) x (ix2 r z) = ex (rowMax (at2 x r) 12288) := by
  rw [pay6_apply, pay5_eq]

theorem exp2_at (E : FVec Ideal S10240x1 .f32) (i : S10240x1.Idx) : exp2 E i = Ideal.exp2 (E i) := by
  rfl

theorem clip_at (x : FVec Ideal S10240x12288 .f32) (E : FVec Ideal S10240x1 .f32) (c : Fin 12288) :
    truncf .fp8e4m3 (minimumf (broadcast S10240x12288 (Scalar.ofBits (F := Ideal) .f32 0x43E00000#32))
      (maximumf (broadcast S10240x12288 (Scalar.ofBits (F := Ideal) .f32 0xC3E00000#32))
        (mulf x (broadcastTo S10240x12288 (exp2 (subf (broadcast S10240x1 (Scalar.ofBits (F := Ideal) .f32 0#32)) E))
          broadcasts_S10240x1_S10240x12288)))) bitsLt_fp8e4m3_f32 (ix2 r c)
      = min hi448 (max lo448 (x (ix2 r c) * Ideal.exp2 (0 - E (ix2 r 0)))) := by
  pointwise
  rfl

theorem pay7_apply (x : Vec Ideal S10240x12288 .bf16) (c : Fin 12288) :
    k0_pay7 (F := Ideal) x (ix2 r c) = xcode (at2 x) r c := by
  have h := pay6_ex r 0 x
  unfold xcode code Spec.inv
  rw [← h, at2_eq]
  unfold k0_pay7
  rw [pay5_eq]
  exact clip_at r x (k0_pay6 (F := Ideal) x) c

theorem pay8_apply (x : Vec Ideal S10240x12288 .bf16) : k0_pay8 (F := Ideal) x (ix2 r z) = xscale (at2 x) r := by
  have h := pay6_ex r z x
  unfold k0_pay8 xscale sc
  rw [← h]
  exact exp2_at _ _

theorem pay9_apply (x : Vec Ideal S10240x12288 .bf16) (c : Fin 12288) :
    k0_pay9 (F := Ideal) x (ix2 r c) = xcode (at2 x) r c := by
  unfold k0_pay9
  rw [← pay7_apply]
  generalize k0_pay7 (F := Ideal) x = E
  pointwise

theorem pay10_apply (x : Vec Ideal S12288x1792 .bf16) (a : Fin 768) (b : Fin 16) (c : Fin 1792) :
    k0_pay10 (F := Ideal) x (ix3 a b c) = x (ix2 ⟨a * 16 + b, by omega⟩ c) := by
  pointwise [k0_pay10]

theorem pay11_apply (x : Vec Ideal S768x1792 .fp8e4m3) (a : Fin 768) (b : Fin 16) (c : Fin 1792) :
    k0_pay11 (F := Ideal) x (ix3 a b c) = x (ix2 a c) := by
  pointwise [k0_pay11]

/-- One projection's weight, from the decoded nibbles and the scales. -/
def wt (v : Vec Ideal S12288x1792 .bf16) (s : Vec Ideal S768x1792 .fp8e4m3) (c n : ℕ) : EReal := at2 v c n * at2 s (c / 16) n

theorem swiglu_eq (g u : EReal) : g * Ideal.logistic g * u = swiglu g u := by
  unfold swiglu Ideal.logistic
  rw [sub_eq_add_neg, zero_add]

theorem proj_eq (X : ℕ → ℕ → EReal) (W : ℕ → ℕ → EReal) (r n : ℕ) (f : Fin 12288 → EReal) (h : ∀ k : Fin 12288, f k = xcode X r k * W k n) :
    ∑ k, f k = proj X W r n := by
  unfold proj
  rw [Finset.sum_range]
  exact Finset.sum_congr rfl fun k _ => h k

theorem pay12_apply (x0 : Vec Ideal S1x1 .f32) (x1 : Vec Ideal S10240x12288 .bf16) (x2 x3 : Vec Ideal S12288x1792 .bf16)
    (x4 x5 : Vec Ideal S768x1792 .fp8e4m3) (n : Fin 1792) :
    k0_pay12 (F := Ideal) (k0_pay8 x1) (k0_pay9 x1) (k0_pay10 x2) (k0_pay11 x4) x3 x5 x0 x0 (ix2 r n)
      = hval (at2 x1) (wt x2 x4) (wt x3 x5) (x0 (ix2 0 0)) r n := by
  unfold hval
  rw [← pay8_apply r 0 x1]
  have hG : ∑ k : Fin 12288, k0_pay9 (F := Ideal) x1 (ix2 r k) * (k0_pay10 (F := Ideal) x2 (ix3 ⟨k.val / 16, by omega⟩ ⟨k.val % 16, by omega⟩ n)
      * k0_pay11 (F := Ideal) x4 (ix3 ⟨k.val / 16, by omega⟩ ⟨k.val % 16, by omega⟩ n)) = proj (at2 x1) (wt x2 x4) r n := by
    refine proj_eq _ _ _ _ _ fun k => ?_
    rw [pay9_apply, pay10_apply, pay11_apply]
    unfold wt
    rw [at2_eq, at2_mk x4 (k.val / 16) n.val (by omega) n.isLt]
    have e : (⟨k.val / 16 * 16 + k.val % 16, by omega⟩ : Fin 12288) = k := Fin.ext (by show k.val / 16 * 16 + k.val % 16 = k.val; omega)
    rw [e]
  have hU : ∑ k : Fin 12288, k0_pay9 (F := Ideal) x1 (ix2 r k) * (x3 (ix2 k n) * x5 (ix2 ⟨k.val / 16, by omega⟩ n)) = proj (at2 x1) (wt x3 x5) r n := by
    refine proj_eq _ _ _ _ _ fun k => ?_
    rw [pay9_apply]
    unfold wt
    rw [at2_eq, at2_mk x5 (k.val / 16) n.val (by omega) n.isLt]
  rw [← hG, ← hU, ← swiglu_eq]
  generalize k0_pay9 (F := Ideal) x1 = a9
  generalize k0_pay10 (F := Ideal) x2 = a10
  generalize k0_pay11 (F := Ideal) x4 = a11
  generalize k0_pay8 (F := Ideal) x1 = a8
  pointwise [k0_pay12]

/-- The exponent of a row of h. -/
theorem pay1_apply (s : FVec Ideal S10240x1 .f32) (a9 : FVec Ideal S10240x12288 .bf16) (b c : FVec Ideal S768x16x1792 .bf16)
    (x3 : Vec Ideal S12288x1792 .bf16) (x5 : Vec Ideal S768x1792 .fp8e4m3) (w w' : Vec Ideal S1x1 .f32) :
    k0_pay1 (F := Ideal) (k0_pay13 s a9 b c x3 x5 w w') (k0_pay14 s a9 b c x3 x5 w w') k0_pay15 (ix2 r z)
      = ex (rowMax (at2 (k0_pay12 (F := Ideal) s a9 b c x3 x5 w w') r) 1792) := by
  rw [← amaxh_apply (k0_pay12 (F := Ideal) s a9 b c x3 x5 w w') r z, ← eAll_apply]
  unfold k0_pay14 k0_pay13
  dsimp only
  generalize (shapeCast S10240x1 (multiReduction (F := Ideal) .maximumf [1] S10240 (absf (k0_pay12 s a9 b c x3 x5 w w')) 0xFF800000#32 reduces_S10240x1792_S10240 (.inl rfl) rfl) shapeCasts_S10240_S10240x1) = A
  rfl

theorem pay2_apply (h : FVec Ideal S10240x1792 .f32) (x y w : FVec Ideal S10240x1 .f32) (n : Fin 1792) :
    k0_pay2 (F := Ideal) h x y w (ix2 r n) = min hi448 (max lo448 (h (ix2 r n) * Ideal.exp2 (0 - k0_pay1 (F := Ideal) x y w (ix2 r 0)))) := by
  unfold k0_pay2
  generalize k0_pay1 (F := Ideal) x y w = E
  pointwise
  rfl

theorem pay3_apply (x y w : FVec Ideal S10240x1 .f32) (a : Fin 10) (b : Fin 8) (c : Fin 128) :
    k0_pay3 (F := Ideal) x y w (ix3 a b c) = Ideal.exp2 (k0_pay1 (F := Ideal) x y w (ix2 ⟨a * 1024 + b * 128 + c, by omega⟩ 0)) := by
  unfold k0_pay3
  generalize k0_pay1 (F := Ideal) x y w = E
  pointwise
  rfl

theorem pay4_apply (x : FVec Ideal S10240x1 .f32) (a : Fin 10) (b : Fin 8) (c : Fin 128) :
    k0_pay4 (F := Ideal) x (ix3 a b c) = x (ix2 ⟨a * 1024 + b * 128 + c, by omega⟩ 0) := by
  pointwise [k0_pay4]

section Out

variable (x0 : Vec Ideal S1x1 .f32) (x1 : Vec Ideal S10240x12288 .bf16) (x2 x3 : Vec Ideal S12288x1792 .bf16)
  (x4 x5 : Vec Ideal S768x1792 .fp8e4m3)

theorem hz2 : (![0, 0] : Fin 2 → ℕ) = fun _ => 0 := by funext a; fin_cases a <;> rfl
theorem hz3 : (![0, 0, 0] : Fin 3 → ℕ) = fun _ => 0 := by funext a; fin_cases a <;> rfl

theorem at2_congr {x : Vec Ideal S10240x1792 .f32} {f : ℕ → ℕ → EReal} (h : ∀ (r : Fin 10240) (n : Fin 1792), x (ix2 r n) = f r n)
    (r : Fin 10240) : rowMax (at2 x r.val) 1792 = rowMax (f r.val) 1792 := by
  refine eq_of_forall_ge_iff fun z => ?_
  rw [rowMax_le, rowMax_le]
  refine and_congr_right fun _ => forall₂_congr fun n hn => ?_
  rw [← h r ⟨n, hn⟩, at2_mk x r.val n r.isLt hn]

theorem out0_6_apply (n : Fin 1792) : out0_6 (F := Ideal) x0 x1 x2 x3 x4 x5 (ix2 r n)
    = hcode (at2 x1) (wt x2 x4) (wt x3 x5) (x0 (ix2 0 0)) r n := by
  unfold out0_6
  rw [View.canon_unit_zero hz2]
  have e0 : View.ld x0 r0_3 = x0 := View.ld_unit_zero hz2 _ x0
  have e1 : View.ld x1 r0_0 = x1 := View.ld_unit_zero hz2 _ x1
  have e2 : View.ld x2 r0_1 = x2 := View.ld_unit_zero hz2 _ x2
  have e3 : View.ld x3 r0_1 = x3 := View.ld_unit_zero hz2 _ x3
  have e4 : View.ld x4 r0_2 = x4 := View.ld_unit_zero hz2 _ x4
  have e5 : View.ld x5 r0_2 = x5 := View.ld_unit_zero hz2 _ x5
  unfold k0_pay20 k0_pay21 k0_pay22
  rw [e0, e3, e5]
  rw [pay2_apply, pay1_apply]
  have hp (r : Fin 10240) (n : Fin 1792) : k0_pay12 (F := Ideal) (k0_pay16 x0 x1 x2 x3 x4 x5) (k0_pay17 x0 x1 x2 x3 x4 x5)
      (k0_pay18 x0 x1 x2 x3 x4 x5) (k0_pay19 x0 x1 x2 x3 x4 x5) x3 x5 x0 x0 (ix2 r n)
      = hval (at2 x1) (wt x2 x4) (wt x3 x5) (x0 (ix2 0 0)) r n := by
    unfold k0_pay16 k0_pay17 k0_pay18 k0_pay19
    rw [e1, e2, e4]
    exact pay12_apply r x0 x1 x2 x3 x4 x5 n
  rw [at2_congr hp, hp]
  rfl

theorem out0_7_apply (a : Fin 10) (b : Fin 8) (c : Fin 128) :
    out0_7 (F := Ideal) x0 x1 x2 x3 x4 x5 (ix3 a b c)
    = hscale (at2 x1) (wt x2 x4) (wt x3 x5) (x0 (ix2 0 0)) (a * 1024 + b * 128 + c) := by
  have e0 : View.ld x0 r0_3 = x0 := View.ld_unit_zero hz2 _ x0
  have e1 : View.ld x1 r0_0 = x1 := View.ld_unit_zero hz2 _ x1
  have e2 : View.ld x2 r0_1 = x2 := View.ld_unit_zero hz2 _ x2
  have e3 : View.ld x3 r0_1 = x3 := View.ld_unit_zero hz2 _ x3
  have e4 : View.ld x4 r0_2 = x4 := View.ld_unit_zero hz2 _ x4
  have e5 : View.ld x5 r0_2 = x5 := View.ld_unit_zero hz2 _ x5
  unfold out0_7
  rw [View.canon_unit_zero hz3]
  unfold k0_pay20 k0_pay21 k0_pay22
  rw [e0, e3, e5]
  rw [pay3_apply, pay1_apply]
  have hp (r : Fin 10240) (n : Fin 1792) : k0_pay12 (F := Ideal) (k0_pay16 x0 x1 x2 x3 x4 x5) (k0_pay17 x0 x1 x2 x3 x4 x5)
      (k0_pay18 x0 x1 x2 x3 x4 x5) (k0_pay19 x0 x1 x2 x3 x4 x5) x3 x5 x0 x0 (ix2 r n)
      = hval (at2 x1) (wt x2 x4) (wt x3 x5) (x0 (ix2 0 0)) r n := by
    unfold k0_pay16 k0_pay17 k0_pay18 k0_pay19
    rw [e1, e2, e4]
    exact pay12_apply r x0 x1 x2 x3 x4 x5 n
  rw [at2_congr hp]
  rfl

theorem out0_8_apply (n : Fin 12288) : out0_8 (F := Ideal) x0 x1 x2 x3 x4 x5 (ix2 r n) = xcode (at2 x1) r n := by
  have e1 : View.ld x1 r0_0 = x1 := View.ld_unit_zero hz2 _ x1
  unfold out0_8
  rw [View.canon_unit_zero hz2, e1]
  exact pay7_apply r x1 n

theorem out0_9_apply (a : Fin 10) (b : Fin 8) (c : Fin 128) : out0_9 (F := Ideal) x0 x1 x2 x3 x4 x5 (ix3 a b c)
    = xscale (at2 x1) (a * 1024 + b * 128 + c) := by
  have e1 : View.ld x1 r0_0 = x1 := View.ld_unit_zero hz2 _ x1
  unfold out0_9
  rw [View.canon_unit_zero hz3]
  unfold k0_pay16
  rw [e1, pay4_apply, pay8_apply]

end Out

end Cert.ReferenceIdeal.Hand

end
-- ==== Proof.RefHost.lean ====
module

public import proofs.«01_k».proof.Proof.RefVal
public import Idealize.ShloMosaic.Lib.StableHlo.ReadAt
public import Idealize.ShloMosaic.Lib.Pipeline.ValueKit

/-! The reference's run with its four results named. -/

@[expose] public section

set_option maxRecDepth 65536

noncomputable section

namespace Cert.ReferenceIdeal.Hand

open Idealize.ShloMosaic Cert.ReferenceIdeal Cert.ReferenceIdeal.Gen Idealize.ShloMosaic.TcCoe Cert.Spec

variable (m : (ℓ : Loc nD τ sig) → Buf (Elt Ideal) ℓ) (c : Dev nD)

abbrev a0 : (⟨3, ![4, 2560, 12288]⟩ : Shape).Idx → EReal := m ((c.tc : Thread nD τ).loc main_arg0)
abbrev a1 : (⟨2, ![12288, 1792]⟩ : Shape).Idx → BitVec 8 := m ((c.tc : Thread nD τ).loc main_arg1)
abbrev a2 : (⟨2, ![768, 3584]⟩ : Shape).Idx → EReal := m ((c.tc : Thread nD τ).loc main_arg2)
abbrev a3 : (⟨0, ![]⟩ : Shape).Idx → EReal := m ((c.tc : Thread nD τ).loc main_arg3)

theorem V_v1 : V m c main_v1 (ix2 0 0) = a3 m c ix0 := by
  unfold V
  after_reads_at

theorem V_v2 (a : Fin 10240) (b : Fin 12288) :
    V m c main_v2 (ix2 a b) = a0 m c (ix3 ⟨a.val / 2560, by omega⟩ ⟨a.val % 2560, by omega⟩ b) := by
  unfold V
  after_reads_at

theorem V_v57 (a : Fin 768) (b : Fin 1792) : V m c main_v57 (ix2 a b) = a2 m c (ix2 a ⟨2 * b.val, by omega⟩) := by
  unfold V
  after_reads_at

theorem V_v58 (a : Fin 768) (b : Fin 1792) : V m c main_v58 (ix2 a b) = a2 m c (ix2 a ⟨1 + 2 * b.val, by omega⟩) := by
  unfold V
  after_reads_at

set_option maxHeartbeats 4000000 in
theorem V_v29 (a : Fin 12288) (b : Fin 1792) : V m c main_v29 (ix2 a b) = dec (loN (a1 m c (ix2 a b))) := by
  unfold V
  after_reads_at
  rfl

set_option maxHeartbeats 4000000 in
theorem V_v56 (a : Fin 12288) (b : Fin 1792) : V m c main_v56 (ix2 a b) = dec (hiN (a1 m c (ix2 a b))) := by
  unfold V
  after_reads_at
  rfl

theorem X_eq : at2 (V m c main_v2 : (⟨2, ![10240, 12288]⟩ : Shape).Idx → EReal) = Xof (a0 m c) := by
  funext r k
  unfold at2 Xof
  by_cases h : r < 10240 ∧ k < 12288
  · rw [dif_pos h, dif_pos h, V_v2]
  · rw [dif_neg h, dif_neg h]

theorem G_eq : wt (V m c main_v29) (V m c main_v57) = Gof (a1 m c) (a2 m c) := by
  funext k n
  unfold wt Gof wGate
  by_cases h : k < 12288 ∧ n < 1792
  · rw [at2_mk _ k n h.1 h.2, at2_mk _ (k / 16) n (by omega) h.2, atB_mk _ k n h.1 h.2, at2_mk _ (k / 16) (2 * n) (by omega) (by omega),
      V_v29, V_v57]
  · rw [show at2 (R := 12288) (C := 1792) (V m c main_v29) k n = 0 from dif_neg h, show atB (a1 m c) k n = 0#8 from dif_neg h, dec_lo_zero, zero_mul, zero_mul]

theorem U_eq : wt (V m c main_v56) (V m c main_v58) = Uof (a1 m c) (a2 m c) := by
  funext k n
  unfold wt Uof wUp
  by_cases h : k < 12288 ∧ n < 1792
  · rw [at2_mk _ k n h.1 h.2, at2_mk _ (k / 16) n (by omega) h.2, atB_mk _ k n h.1 h.2, at2_mk _ (k / 16) (2 * n + 1) (by omega) (by omega),
      V_v56, V_v58]
    refine congrArg (fun z => dec (hiN (a1 m c (ix2 ⟨k, h.1⟩ ⟨n, h.2⟩))) * a2 m c (ix2 ⟨k / 16, by omega⟩ z)) (Fin.ext ?_)
    show 1 + 2 * n = 2 * n + 1
    omega
  · rw [show at2 (R := 12288) (C := 1792) (V m c main_v56) k n = 0 from dif_neg h, show atB (a1 m c) k n = 0#8 from dif_neg h, dec_hi_zero, zero_mul, zero_mul]

/-- Every window's block index at the one point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0]
    ∧ win0_8.index t = ![0, 0] ∧ win0_9.index t = ![0, 0, 0] := by decide +kernel

theorem emb0 (t : Fin cfg0.N) (y0 : Fin 1) (y1 : Fin 1) : (win0_0.blk t).view.emb (ix2 y0 y1) = ix2 y0 y1 := by
  funext a
  apply Fin.ext
  match a with
  | ⟨0, _⟩ => blk_simp [idx t]
  | ⟨1, _⟩ => blk_simp [idx t]

theorem blk0 (t : Fin cfg0.N) : iblk m c 0 t = V m c main_v1 := by
  unfold iblk
  funext y
  idx_vars y
  blk_simp
  rw [emb0]

theorem emb1 (t : Fin cfg0.N) (y0 : Fin 10240) (y1 : Fin 12288) : (win0_1.blk t).view.emb (ix2 y0 y1) = ix2 y0 y1 := by
  funext a
  apply Fin.ext
  match a with
  | ⟨0, _⟩ => blk_simp [idx t]
  | ⟨1, _⟩ => blk_simp [idx t]

theorem blk1 (t : Fin cfg0.N) : iblk m c 1 t = V m c main_v2 := by
  unfold iblk
  funext y
  idx_vars y
  blk_simp
  rw [emb1]

theorem emb2 (t : Fin cfg0.N) (y0 : Fin 12288) (y1 : Fin 1792) : (win0_2.blk t).view.emb (ix2 y0 y1) = ix2 y0 y1 := by
  funext a
  apply Fin.ext
  match a with
  | ⟨0, _⟩ => blk_simp [idx t]
  | ⟨1, _⟩ => blk_simp [idx t]

theorem blk2 (t : Fin cfg0.N) : iblk m c 2 t = V m c main_v29 := by
  unfold iblk
  funext y
  idx_vars y
  blk_simp
  rw [emb2]

theorem emb3 (t : Fin cfg0.N) (y0 : Fin 12288) (y1 : Fin 1792) : (win0_3.blk t).view.emb (ix2 y0 y1) = ix2 y0 y1 := by
  funext a
  apply Fin.ext
  match a with
  | ⟨0, _⟩ => blk_simp [idx t]
  | ⟨1, _⟩ => blk_simp [idx t]

theorem blk3 (t : Fin cfg0.N) : iblk m c 3 t = V m c main_v56 := by
  unfold iblk
  funext y
  idx_vars y
  blk_simp
  rw [emb3]

theorem emb4 (t : Fin cfg0.N) (y0 : Fin 768) (y1 : Fin 1792) : (win0_4.blk t).view.emb (ix2 y0 y1) = ix2 y0 y1 := by
  funext a
  apply Fin.ext
  match a with
  | ⟨0, _⟩ => blk_simp [idx t]
  | ⟨1, _⟩ => blk_simp [idx t]

theorem blk4 (t : Fin cfg0.N) : iblk m c 4 t = V m c main_v57 := by
  unfold iblk
  funext y
  idx_vars y
  blk_simp
  rw [emb4]

theorem emb5 (t : Fin cfg0.N) (y0 : Fin 768) (y1 : Fin 1792) : (win0_5.blk t).view.emb (ix2 y0 y1) = ix2 y0 y1 := by
  funext a
  apply Fin.ext
  match a with
  | ⟨0, _⟩ => blk_simp [idx t]
  | ⟨1, _⟩ => blk_simp [idx t]

theorem blk5 (t : Fin cfg0.N) : iblk m c 5 t = V m c main_v58 := by
  unfold iblk
  funext y
  idx_vars y
  blk_simp
  rw [emb5]

theorem emb6 (t : Fin cfg0.N) (y0 : Fin 10240) (y1 : Fin 1792) : (win0_6.blk t).view.emb (ix2 y0 y1) = ix2 y0 y1 := by
  funext a
  apply Fin.ext
  match a with
  | ⟨0, _⟩ => blk_simp [idx t]
  | ⟨1, _⟩ => blk_simp [idx t]

theorem emb7 (t : Fin cfg0.N) (y0 : Fin 10) (y1 : Fin 8) (y2 : Fin 128) : (win0_7.blk t).view.emb (ix3 y0 y1 y2) = ix3 y0 y1 y2 := by
  funext a
  apply Fin.ext
  match a with
  | ⟨0, _⟩ => blk_simp [idx t]
  | ⟨1, _⟩ => blk_simp [idx t]
  | ⟨2, _⟩ => blk_simp [idx t]

theorem emb8 (t : Fin cfg0.N) (y0 : Fin 10240) (y1 : Fin 12288) : (win0_8.blk t).view.emb (ix2 y0 y1) = ix2 y0 y1 := by
  funext a
  apply Fin.ext
  match a with
  | ⟨0, _⟩ => blk_simp [idx t]
  | ⟨1, _⟩ => blk_simp [idx t]

theorem emb9 (t : Fin cfg0.N) (y0 : Fin 10) (y1 : Fin 8) (y2 : Fin 128) : (win0_9.blk t).view.emb (ix3 y0 y1 y2) = ix3 y0 y1 y2 := by
  funext a
  apply Fin.ext
  match a with
  | ⟨0, _⟩ => blk_simp [idx t]
  | ⟨1, _⟩ => blk_simp [idx t]
  | ⟨2, _⟩ => blk_simp [idx t]

theorem ref6 : (dats m 0 c).arrAt 6 cfg0.N = R0 (a0 m c) (a1 m c) (a2 m c) (a3 m c) := by
  refine (dats m 0 c).arrAt_eq_of_covers 6 _ (by decide +kernel) fun t hf y => ?_
  idx_vars y
  blk_simp
  rw [after0_6, blk0, blk1, blk2, blk3, blk4, blk5, emb6, out0_6_apply, X_eq, G_eq, U_eq, V_v1]
  rfl

theorem ref7 : (dats m 0 c).arrAt 7 cfg0.N = R1 (a0 m c) (a1 m c) (a2 m c) (a3 m c) := by
  refine (dats m 0 c).arrAt_eq_of_covers 7 _ (by decide +kernel) fun t hf y => ?_
  idx_vars y
  blk_simp
  rw [after0_7, blk0, blk1, blk2, blk3, blk4, blk5, emb7, out0_7_apply, X_eq, G_eq, U_eq, V_v1]
  rfl

theorem ref8 : (dats m 0 c).arrAt 8 cfg0.N = R2 (a0 m c) := by
  refine (dats m 0 c).arrAt_eq_of_covers 8 _ (by decide +kernel) fun t hf y => ?_
  idx_vars y
  blk_simp
  rw [after0_8, blk0, blk1, blk2, blk3, blk4, blk5, emb8, out0_8_apply, X_eq]
  rfl

theorem ref9 : (dats m 0 c).arrAt 9 cfg0.N = R3 (a0 m c) := by
  refine (dats m 0 c).arrAt_eq_of_covers 9 _ (by decide +kernel) fun t hf y => ?_
  idx_vars y
  blk_simp
  rw [after0_9, blk0, blk1, blk2, blk3, blk4, blk5, emb9, out0_9_apply, X_eq]
  rfl

theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59_0) = R0 (a0 m c) (a1 m c) (a2 m c) (a3 m c)
      ∧ r.2.mem ((c.tc : Thread nD τ).loc main_v59_1) = R1 (a0 m c) (a1 m c) (a2 m c) (a3 m c)
      ∧ r.2.mem ((c.tc : Thread nD τ).loc main_v59_2) = R2 (a0 m c)
      ∧ r.2.mem ((c.tc : Thread nD τ).loc main_v59_3) = R3 (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h => ?_) (θ_run_and (run_main m ρ) (unchanged m ρ))
  intro c
  exact ⟨((h.1 c).1 6).trans (ref6 m c), ((h.1 c).1 7).trans (ref7 m c), ((h.1 c).1 8).trans (ref8 m c), ((h.1 c).1 9).trans (ref9 m c), h.2 c⟩

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.KernelRun
public import proofs.«01_k».proof.Proof.RefHost
public import Idealize.ShloMosaic.Adequacy
public import Idealize.ShloMosaic.Init

@[expose] public section

noncomputable section

namespace Cert.Proof

open Idealize.ShloMosaic Idealize.SL.Sem Cert.Kernel

/-- The two programs compute the same four results: each the mathematics' functions `R0` to `R3` of the arguments. -/
theorem algebraic : @Cert.algebraic_KernelIdeal_ReferenceIdeal Cert.KernelIdeal.Gen.facts Cert.ReferenceIdeal.Gen.facts := by
  intro m g m' g' _ hm
  refine ⟨fun c => Spec.R0 (KernelIdeal.Hand.ar0 m c) (KernelIdeal.Hand.ar1 m c) (KernelIdeal.Hand.ar2 m c) (KernelIdeal.Hand.ar3 m c),
    fun c => Spec.R1 (KernelIdeal.Hand.ar0 m c) (KernelIdeal.Hand.ar1 m c) (KernelIdeal.Hand.ar2 m c) (KernelIdeal.Hand.ar3 m c),
    fun c => Spec.R2 (KernelIdeal.Hand.ar0 m c), fun c => Spec.R3 (KernelIdeal.Hand.ar0 m c),
    KernelIdeal.Val.run_value m g, ?_⟩
  refine (θ_run _ _ _).mono (fun r h c => ?_) (ReferenceIdeal.Hand.run_value m' g')
  have e0 : ReferenceIdeal.Hand.a0 m' c = KernelIdeal.Hand.ar0 m c := (hm c).1
  have e1 : ReferenceIdeal.Hand.a1 m' c = KernelIdeal.Hand.ar1 m c := (hm c).2.1
  have e2 : ReferenceIdeal.Hand.a2 m' c = KernelIdeal.Hand.ar2 m c := (hm c).2.2.1
  have e3 : ReferenceIdeal.Hand.a3 m' c = KernelIdeal.Hand.ar3 m c := (hm c).2.2.2
  have hc := h c
  rw [e0, e1, e2, e3] at hc
  exact hc

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
